-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![2048, 512]⟩ ⟨2, ![16384, 512]⟩ 0 8 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2048x512 : Shape := ⟨2, ![2048, 512]⟩
abbrev S16384x512 : Shape := ⟨2, ![16384, 512]⟩
abbrev S21 : Shape := ⟨1, ![21]⟩
abbrev S_ : Shape := ⟨0, ![]⟩
abbrev S1 : Shape := ⟨1, ![1]⟩
abbrev S688x512 : Shape := ⟨2, ![688, 512]⟩
abbrev S672x512 : Shape := ⟨2, ![672, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .bf16⟩
  | .hbm, ⟨1, _⟩ => ⟨S16384x512, .bf16⟩
  | .local _ .vmem, ⟨0, _⟩ => ⟨S2048x512, .bf16⟩
  | .local _ .vmem, ⟨1, _⟩ => ⟨S16384x512, .bf16⟩
  | _, _ => ⟨S2048x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2048_i32 : BitVec 32 := 2048#32
  let v5 : BitVec 32 := Scalar.muli v2 c2048_i32
  let v6 : Index := Scalar.indexCast v5
  let c0_1 : Index := 0#32
  ![v6.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v9 : BitVec 32 := Scalar.xori v2 c1_i32_2
  let c1_i32_4 : BitVec 32 := 1#32
  let v10 : BitVec 32 := Scalar.muli v9 c1_i32_4
  let v11 : BitVec 32 := Scalar.addi c0_i32 v10
  v11.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.xori v2 c3_i32
  let c1_i32_6 : BitVec 32 := 1#32
  let v13 : BitVec 32 := Scalar.muli v12 c1_i32_6
  let v14 : BitVec 32 := Scalar.addi c0_i32_7 v13
  v14.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v15 : BitVec 32 := Scalar.xori v2 c4_i32
  let c1_i32_9 : BitVec 32 := 1#32
  let v16 : BitVec 32 := Scalar.muli v15 c1_i32_9
  let v17 : BitVec 32 := Scalar.addi c0_i32_10 v16
  v17.toNat
def k0_off2 (d0 : Dev nD) (c0_i32_12 : BitVec 32) (c0_i32_19 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v18 : BitVec 32 := Scalar.xori v2 c0_i32_12
  let c2048_i32_18 : BitVec 32 := 2048#32
  let v24 : BitVec 32 := Scalar.muli v18 c2048_i32_18
  let v25 : BitVec 32 := Scalar.addi v24 c0_i32_19
  let c0_i32_263 : BitVec 32 := 0#32
  ![v25.toNat, 0]
def k0_off2_at (r : Fin 8) : BitVec 32 × BitVec 32 :=
  if r.val < 4 then
    if r.val < 2 then
      if r.val < 1 then
        (0#32, 0#32)
      else
        (0#32, 688#32)
    else
      if r.val < 3 then
        (1#32, 0#32)
      else
        (3#32, 688#32)
  else
    if r.val < 6 then
      if r.val < 5 then
        (3#32, 0#32)
      else
        (4#32, 688#32)
    else
      if r.val < 7 then
        (2#32, 0#32)
      else
        (7#32, 688#32)
def k0_dev4 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v21 : BitVec 32 := Scalar.xori v2 c1_i32_15
  let c1_i32_261 : BitVec 32 := 1#32
  let v270 : BitVec 32 := Scalar.muli v21 c1_i32_261
  let v271 : BitVec 32 := Scalar.addi c0_i32_262 v270
  v271.toNat
def k0_dev5 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_98 : BitVec 32 := 3#32
  let v105 : BitVec 32 := Scalar.xori v2 c3_i32_98
  let c1_i32_267 : BitVec 32 := 1#32
  let v278 : BitVec 32 := Scalar.muli v105 c1_i32_267
  let v279 : BitVec 32 := Scalar.addi c0_i32_268 v278
  v279.toNat
def k0_off3 (d0 : Dev nD) (c0_i32_177 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v186 : BitVec 32 := Scalar.xori v2 c0_i32_177
  let c2048_i32_182 : BitVec 32 := 2048#32
  let v192 : BitVec 32 := Scalar.muli v186 c2048_i32_182
  let c1376_i32_183 : BitVec 32 := 1376#32
  let v193 : BitVec 32 := Scalar.addi v192 c1376_i32_183
  let c0_i32_274 : BitVec 32 := 0#32
  ![v193.toNat, 0]
def k0_off3_at (r : Fin 4) : BitVec 32 :=
  if r.val < 2 then
    if r.val < 1 then
      0#32
    else
      4#32
  else
    if r.val < 3 then
      1#32
    else
      5#32
def k0_dev6 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_180 : BitVec 32 := 4#32
  let v189 : BitVec 32 := Scalar.xori v2 c4_i32_180
  let c1_i32_272 : BitVec 32 := 1#32
  let v286 : BitVec 32 := Scalar.muli v189 c1_i32_272
  let v287 : BitVec 32 := Scalar.addi c0_i32_273 v286
  v287.toNat
def k0_dev7 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_27 : BitVec 32 := 3#32
  let v33 : BitVec 32 := Scalar.xori v2 c3_i32_27
  let c1_i32_278 : BitVec 32 := 1#32
  let v294 : BitVec 32 := Scalar.muli v33 c1_i32_278
  let v295 : BitVec 32 := Scalar.addi c0_i32_279 v294
  v295.toNat
def k0_dev8 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_109 : BitVec 32 := 4#32
  let v117 : BitVec 32 := Scalar.xori v2 c4_i32_109
  let c1_i32_284 : BitVec 32 := 1#32
  let v302 : BitVec 32 := Scalar.muli v117 c1_i32_284
  let v303 : BitVec 32 := Scalar.addi c0_i32_285 v302
  v303.toNat
def k0_dev9 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_191 : BitVec 32 := 1#32
  let v201 : BitVec 32 := Scalar.xori v2 c1_i32_191
  let c1_i32_289 : BitVec 32 := 1#32
  let v310 : BitVec 32 := Scalar.muli v201 c1_i32_289
  let v311 : BitVec 32 := Scalar.addi c0_i32_290 v310
  v311.toNat
def k0_dev10 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_51 : BitVec 32 := 4#32
  let v57 : BitVec 32 := Scalar.xori v2 c4_i32_51
  let c1_i32_295 : BitVec 32 := 1#32
  let v318 : BitVec 32 := Scalar.muli v57 c1_i32_295
  let v319 : BitVec 32 := Scalar.addi c0_i32_296 v318
  v319.toNat
def k0_dev11 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v141 : BitVec 32 := Scalar.xori v2 c1_i32_133
  let c1_i32_300 : BitVec 32 := 1#32
  let v326 : BitVec 32 := Scalar.muli v141 c1_i32_300
  let v327 : BitVec 32 := Scalar.addi c0_i32_301 v326
  v327.toNat
def k0_dev12 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_215 : BitVec 32 := 3#32
  let v225 : BitVec 32 := Scalar.xori v2 c3_i32_215
  let c1_i32_305 : BitVec 32 := 1#32
  let v334 : BitVec 32 := Scalar.muli v225 c1_i32_305
  let v335 : BitVec 32 := Scalar.addi c0_i32_306 v334
  v335.toNat
def k0_off4 (d0 : Dev nD) (c0_i32_13 : BitVec 32) (c1_i32_14 : BitVec 32) (c0_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v19 : BitVec 32 := Scalar.xori v2 c0_i32_13
  let v20 : BitVec 32 := Scalar.xori v19 c1_i32_14
  let c2048_i32_22 : BitVec 32 := 2048#32
  let v28 : BitVec 32 := Scalar.muli v20 c2048_i32_22
  let v29 : BitVec 32 := Scalar.addi v28 c0_i32_23
  let c0_i32_313 : BitVec 32 := 0#32
  ![v29.toNat, 0]
def k0_off4_at (r : Fin 14) : BitVec 32 × BitVec 32 × BitVec 32 :=
  if r.val < 7 then
    if r.val < 3 then
      if r.val < 1 then
        (0#32, 1#32, 0#32)
      else
        if r.val < 2 then
          (0#32, 3#32, 688#32)
        else
          (0#32, 3#32, 0#32)
    else
      if r.val < 5 then
        if r.val < 4 then
          (0#32, 4#32, 688#32)
        else
          (1#32, 3#32, 0#32)
      else
        if r.val < 6 then
          (3#32, 4#32, 688#32)
        else
          (0#32, 4#32, 0#32)
  else
    if r.val < 10 then
      if r.val < 8 then
        (1#32, 4#32, 0#32)
      else
        if r.val < 9 then
          (3#32, 4#32, 0#32)
        else
          (2#32, 4#32, 0#32)
    else
      if r.val < 12 then
        if r.val < 11 then
          (0#32, 1#32, 688#32)
        else
          (3#32, 1#32, 688#32)
      else
        if r.val < 13 then
          (4#32, 1#32, 688#32)
        else
          (7#32, 1#32, 688#32)
def k0_dev13 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_39 : BitVec 32 := 3#32
  let v45 : BitVec 32 := Scalar.xori v2 c3_i32_39
  let c1_i32_317 : BitVec 32 := 1#32
  let v348 : BitVec 32 := Scalar.muli v45 c1_i32_317
  let v349 : BitVec 32 := Scalar.addi c0_i32_318 v348
  v349.toNat
def k0_dev14 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_63 : BitVec 32 := 4#32
  let v69 : BitVec 32 := Scalar.xori v2 c4_i32_63
  let c1_i32_323 : BitVec 32 := 1#32
  let v356 : BitVec 32 := Scalar.muli v69 c1_i32_323
  let v357 : BitVec 32 := Scalar.addi c0_i32_324 v356
  v357.toNat
def k0_dev15 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_121 : BitVec 32 := 4#32
  let v129 : BitVec 32 := Scalar.xori v2 c4_i32_121
  let c1_i32_334 : BitVec 32 := 1#32
  let v370 : BitVec 32 := Scalar.muli v129 c1_i32_334
  let v371 : BitVec 32 := Scalar.addi c0_i32_335 v370
  v371.toNat
def k0_dev16 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_145 : BitVec 32 := 1#32
  let v153 : BitVec 32 := Scalar.xori v2 c1_i32_145
  let c1_i32_339 : BitVec 32 := 1#32
  let v378 : BitVec 32 := Scalar.muli v153 c1_i32_339
  let v379 : BitVec 32 := Scalar.addi c0_i32_340 v378
  v379.toNat
def k0_off5 (d0 : Dev nD) (c0_i32_178 : BitVec 32) (c4_i32_179 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v187 : BitVec 32 := Scalar.xori v2 c0_i32_178
  let v188 : BitVec 32 := Scalar.xori v187 c4_i32_179
  let c2048_i32_186 : BitVec 32 := 2048#32
  let v196 : BitVec 32 := Scalar.muli v188 c2048_i32_186
  let c1376_i32_187 : BitVec 32 := 1376#32
  let v197 : BitVec 32 := Scalar.addi v196 c1376_i32_187
  let c0_i32_347 : BitVec 32 := 0#32
  ![v197.toNat, 0]
def k0_off5_at (r : Fin 7) : BitVec 32 × BitVec 32 :=
  if r.val < 3 then
    if r.val < 1 then
      (0#32, 4#32)
    else
      if r.val < 2 then
        (0#32, 1#32)
      else
        (4#32, 1#32)
  else
    if r.val < 5 then
      if r.val < 4 then
        (0#32, 3#32)
      else
        (4#32, 3#32)
    else
      if r.val < 6 then
        (1#32, 3#32)
      else
        (5#32, 3#32)
def k0_dev17 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_203 : BitVec 32 := 1#32
  let v213 : BitVec 32 := Scalar.xori v2 c1_i32_203
  let c1_i32_350 : BitVec 32 := 1#32
  let v392 : BitVec 32 := Scalar.muli v213 c1_i32_350
  let v393 : BitVec 32 := Scalar.addi c0_i32_351 v392
  v393.toNat
def k0_dev18 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_227 : BitVec 32 := 3#32
  let v237 : BitVec 32 := Scalar.xori v2 c3_i32_227
  let c1_i32_355 : BitVec 32 := 1#32
  let v400 : BitVec 32 := Scalar.muli v237 c1_i32_355
  let v401 : BitVec 32 := Scalar.addi c0_i32_356 v400
  v401.toNat
def k0_dev19 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_75 : BitVec 32 := 4#32
  let v81 : BitVec 32 := Scalar.xori v2 c4_i32_75
  let c1_i32_367 : BitVec 32 := 1#32
  let v414 : BitVec 32 := Scalar.muli v81 c1_i32_367
  let v415 : BitVec 32 := Scalar.addi c0_i32_368 v414
  v415.toNat
def k0_dev20 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_157 : BitVec 32 := 1#32
  let v165 : BitVec 32 := Scalar.xori v2 c1_i32_157
  let c1_i32_378 : BitVec 32 := 1#32
  let v428 : BitVec 32 := Scalar.muli v165 c1_i32_378
  let v429 : BitVec 32 := Scalar.addi c0_i32_379 v428
  v429.toNat
def k0_dev21 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_239 : BitVec 32 := 3#32
  let v249 : BitVec 32 := Scalar.xori v2 c3_i32_239
  let c1_i32_389 : BitVec 32 := 1#32
  let v442 : BitVec 32 := Scalar.muli v249 c1_i32_389
  let v443 : BitVec 32 := Scalar.addi c0_i32_390 v442
  v443.toNat
def k0_dev22 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_86 : BitVec 32 := 4#32
  let v93 : BitVec 32 := Scalar.xori v2 c4_i32_86
  let c1_i32_400 : BitVec 32 := 1#32
  let v456 : BitVec 32 := Scalar.muli v93 c1_i32_400
  let v457 : BitVec 32 := Scalar.addi c0_i32_401 v456
  v457.toNat
def k0_dev23 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_168 : BitVec 32 := 1#32
  let v177 : BitVec 32 := Scalar.xori v2 c1_i32_168
  let c1_i32_411 : BitVec 32 := 1#32
  let v470 : BitVec 32 := Scalar.muli v177 c1_i32_411
  let v471 : BitVec 32 := Scalar.addi c0_i32_412 v470
  v471.toNat
def k0_dev24 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_250 : BitVec 32 := 3#32
  let v261 : BitVec 32 := Scalar.xori v2 c3_i32_250
  let c1_i32_422 : BitVec 32 := 1#32
  let v484 : BitVec 32 := Scalar.muli v261 c1_i32_422
  let v485 : BitVec 32 := Scalar.addi c0_i32_423 v484
  v485.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S16384x512 : Shape := ⟨2, ![16384, 512]⟩

abbrev nBuf : Space → Nat
  | .hbm => 1
  | .vmem => 0
  | .smem => 0
  | _ => 0

abbrev bufTy : (tb : Table) → Fin (tcTables nBuf tb) → BufTy
  | .hbm, ⟨0, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Route.lean ====
/-
# Routes of the gather

Eight devices each hold 2048 rows. A copy is named by a pair `(s, e)`: `s` is one of three bands a
chunk of 2048 rows is cut into, `e` one of the seven exchanges a band goes through. This module says
who talks to whom (`peer`), which chunk a copy carries (`held`), and that the printed kernel — its
offsets, devices and semaphores — is the plain list of copies and waits `steps`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen

open Idealize.ShloMosaic
open Idealize.ShloMosaic.TcCoe
open Idealize.SL.Sem

variable {F : FTy → Type} [FloatOps F]

/-! ## Masks -/

/-- A copy: its band and its exchange. -/
abbrev Copy : Type := Fin 3 × Fin 7

set_option backward.proofsInPublic true in
/-- The device whose number differs from `c`'s in the bits of `x`. -/
def flip (c : Dev nD) (x : Fin 8) : Dev nD := ⟨(c.val ^^^ x.val) % 8, Nat.mod_lt _ (by decide)⟩

set_option backward.proofsInPublic true in
/-- The bits in which exactly one of two masks differs. -/
def mix (x y : Fin 8) : Fin 8 := ⟨(x.val ^^^ y.val) % 8, Nat.mod_lt _ (by decide)⟩

/-- A band's three directions, in the order it uses them. -/
def dir : Fin 3 → Fin 3 → Fin 8
  | 0 => fun | 0 => 1 | 1 => 3 | 2 => 4
  | 1 => fun | 0 => 3 | 1 => 4 | 2 => 1
  | 2 => fun | 0 => 4 | 1 => 1 | 2 => 3

/-- The direction a copy goes. -/
def peer (k : Copy) : Fin 8 :=
  match k.2 with
  | 0 => dir k.1 0 | 1 => dir k.1 1 | 2 => dir k.1 1
  | 3 => dir k.1 2 | 4 => dir k.1 2 | 5 => dir k.1 2 | 6 => dir k.1 2

/-- Whose chunk a copy carries, seen from the sender. -/
def held (k : Copy) : Fin 8 :=
  match k.2 with
  | 0 => 0 | 1 => 0 | 2 => dir k.1 0
  | 3 => 0 | 4 => dir k.1 0 | 5 => dir k.1 1 | 6 => mix (dir k.1 0) (dir k.1 1)

/-- Whose chunk it is, seen from the receiver. -/
def got (k : Copy) : Fin 8 := mix (peer k) (held k)

theorem flip_flip (c : Dev nD) (x : Fin 8) : flip (flip c x) x = c := by revert c x; decide +kernel
theorem flip_mix (c : Dev nD) (x y : Fin 8) : flip (flip c x) y = flip c (mix x y) := by revert c x y; decide +kernel
theorem flip_inj {c d : Dev nD} {x : Fin 8} (h : flip c x = flip d x) : c = d := by rw [← flip_flip c x, h, flip_flip]
/-- What the receiver sees is what the sender holds. -/
theorem flip_got (c : Dev nD) (k : Copy) : flip (flip c (peer k)) (got k) = flip c (held k) := by revert c k; decide +kernel
theorem flip_held_peer (c : Dev nD) (k : Copy) : flip (flip c (peer k)) (held k) = flip c (got k) := by revert c k; decide +kernel
/-- Flipping by a mask goes through all devices once. -/
def turn (x : Fin 8) : Dev nD ≃ Dev nD := ⟨(flip · x), (flip · x), fun c => flip_flip c x, fun c => flip_flip c x⟩

/-! ## Regions: a band of a chunk -/

/-- A band's first row in its chunk, -/
def bandOff : Fin 3 → Nat | 0 => 0 | 1 => 688 | 2 => 1376
/-- and its shape. -/
def bandShape : Fin 3 → Shape | 0 => S688x512 | 1 => S688x512 | 2 => S672x512

/-- Where band `s` of device `d`'s chunk starts. -/
def corner (d : Dev nD) (s : Fin 3) : Fin 2 → Nat := ![2048 * d.val + bandOff s, 0]

abbrev Sizes (s : Fin 3) : Fin 2 → Nat := match s with | 0 => S688x512.size | 1 => S688x512.size | 2 => S672x512.size

theorem corner_inb (d : Dev nD) : ∀ s : Fin 3, ∀ a, corner d s a + Sizes s a ≤ S16384x512.size a := by
  revert d; decide +kernel

/-- Band `s` of device `d`'s chunk, as a rectangle of the gathered array. -/
abbrev box (d : Dev nD) (s : Fin 3) : Rect S16384x512 := Rect.unit (s := S16384x512) (corner d s) (Sizes s) (corner_inb d s)

theorem box_words (d : Dev nD) : ∀ s : Fin 3, (box d s).WholeWords (EltTy.packing .bf16) := by revert d; decide +kernel

/-- The output's staging buffer, the input's, -/
abbrev oM : Memref sig .tc .vmem S16384x512 .bf16 := Memref.whole cc0_stg1_0
abbrev xM : Memref sig .tc .vmem S2048x512 .bf16 := Memref.whole cc0_stg0_0

theorem box_shape (d : Dev nD) : ∀ s : Fin 3, (box d s).shape = bandShape s
  | 0 => rfl | 1 => rfl | 2 => rfl

/-- and a region of the output. -/
abbrev reg (d : Dev nD) (s : Fin 3) : Memref sig .tc .vmem (box d s).shape .bf16 := oM.slice (box d s) (fun _ => rfl)

theorem reg_words (d : Dev nD) (s : Fin 3) : (reg d s).view.WordExact := (Memref.isWhole_whole cc0_stg1_0).wordExact_slice rfl _ (box_words d s)

/-! ## Semaphores -/

/-- A copy's place in the semaphore arrays. -/
def slot (k : Copy) : Nat := k.1.val * 7 + k.2.val
theorem slot_lt (k : Copy) : slot k < 21 := by revert k; decide

set_option backward.proofsInPublic true in
/-- The semaphore a copy raises at its sender, -/
def sendS (k : Copy) : DmaSem sig := ⟨2 + slot k, by have := slot_lt k; show 2 + slot k < 44; omega⟩
set_option backward.proofsInPublic true in
/-- and at its receiver. -/
def recvS (k : Copy) : DmaSem sig := ⟨23 + slot k, by have := slot_lt k; show 23 + slot k < 44; omega⟩
/-- The barrier semaphore all kernels of the launch share. -/
abbrev barS : Sem sig := (SemArray.scalar (sig.barrier 0 rfl) : Sems sig S_).sem

/-! ## The kernel as a list of steps -/

/-- One step of the kernel after its barrier: start a copy, wait for one to arrive, wait for one's source to be free again. -/
inductive Step
  | start (k : Copy) | arrive (k : Copy) | drain (k : Copy)
  deriving DecidableEq

/-- A step on device `c`, in front of a program. -/
def Step.run {α : Type} (c : Dev nD) (rest : Prog (TpuEff nD τ sig (Elt F) Λ₀ .tc) α) : Step → Prog (TpuEff nD τ sig (Elt F) Λ₀ .tc) α
  | .start k => .op (.enqueueDma (reg (flip c (held k)) k.1) (.remote (Dev.tc (flip c (peer k))) (reg (flip c (held k)) k.1) (.dma (sendS k))) (.dma (recvS k))
      (reg_words _ _) (reg_words _ _) ⟨⟨rfl, Or.inl rfl⟩, trivial⟩) fun _ => rest
  | .arrive k => .op (.waitDma2 (recvS k) (reg (flip c (got k)) k.1) (reg (flip c (got k)) k.1) (reg_words _ _) (reg_words _ _)) fun _ => rest
  | .drain k => .op (.waitDma2 (sendS k) (reg (flip c (held k)) k.1) (reg (flip c (held k)) k.1) (reg_words _ _) (reg_words _ _)) fun _ => rest

/-- A list of steps in front of a program. -/
def runs {α : Type} (c : Dev nD) (rest : Prog (TpuEff nD τ sig (Elt F) Λ₀ .tc) α) (l : List Step) : Prog (TpuEff nD τ sig (Elt F) Λ₀ .tc) α :=
  l.foldr (fun st r => st.run c r) rest

theorem runs_cons {α : Type} (c : Dev nD) (rest : Prog (TpuEff nD τ sig (Elt F) Λ₀ .tc) α) (a : Step) (l : List Step) :
    runs c rest (a :: l) = a.run c (runs c rest l) := rfl
theorem runs_append {α : Type} (c : Dev nD) (rest : Prog (TpuEff nD τ sig (Elt F) Λ₀ .tc) α) (l l' : List Step) :
    runs c rest (l ++ l') = runs c (runs c rest l') l := by unfold runs; rw [List.foldr_append]

/-- Going on after a list of steps is putting it in front. -/
theorem runs_bind {α β : Type} (c : Dev nD) (rest : Prog (TpuEff nD τ sig (Elt F) Λ₀ .tc) α) (k : α → Prog (TpuEff nD τ sig (Elt F) Λ₀ .tc) β) :
    ∀ l : List Step, (runs c rest l).bind k = runs c (rest.bind k) l
  | [] => rfl
  | .start j :: l => congrArg (Prog.op _) (funext fun _ => runs_bind c rest k l)
  | .arrive j :: l => congrArg (Prog.op _) (funext fun _ => runs_bind c rest k l)
  | .drain j :: l => congrArg (Prog.op _) (funext fun _ => runs_bind c rest k l)

end Cert.Gather

end
-- ==== Proof.Steps.lean ====
/-
# The printed kernel is its list of steps

The printed kernel computes each offset and each device number from its own device number by 32-bit
words. Decided over the eight devices they are the corners of `Route.lean`; with them rewritten, each
printed part after the barrier is a list of steps.
-/
module

public import proofs.«01_k».proof.Proof.Route

@[expose] public section

noncomputable section

namespace Cert.Gather

open Cert.KernelIdeal Cert.KernelIdeal.Gen

open Idealize.ShloMosaic
open Idealize.ShloMosaic.TcCoe
open Idealize.SL.Sem

variable {F : FTy → Type} [FloatOps F]

/-! ## The printed words -/

/-- Where sends start, in bands 0 and 1; -/
theorem off2_eq (c : Dev nD) :
    k0_off2 c 0#32 0#32 = corner (flip c 0) 0 ∧ k0_off2 c 0#32 688#32 = corner (flip c 0) 1
    ∧ k0_off2 c 1#32 0#32 = corner (flip c 1) 0 ∧ k0_off2 c 3#32 688#32 = corner (flip c 3) 1
    ∧ k0_off2 c 3#32 0#32 = corner (flip c 3) 0 ∧ k0_off2 c 4#32 688#32 = corner (flip c 4) 1
    ∧ k0_off2 c 2#32 0#32 = corner (flip c 2) 0 ∧ k0_off2 c 7#32 688#32 = corner (flip c 7) 1 := by
  revert c; decide +kernel
/-- in band 2. -/
theorem off3_eq (c : Dev nD) :
    k0_off3 c 0#32 = corner (flip c 0) 2 ∧ k0_off3 c 4#32 = corner (flip c 4) 2
    ∧ k0_off3 c 1#32 = corner (flip c 1) 2 ∧ k0_off3 c 5#32 = corner (flip c 5) 2 := by
  revert c; decide +kernel
/-- Where arrivals start, in bands 0 and 1; -/
theorem off4_eq (c : Dev nD) :
    k0_off4 c 0#32 1#32 0#32 = corner (flip c 1) 0 ∧ k0_off4 c 0#32 3#32 688#32 = corner (flip c 3) 1
    ∧ k0_off4 c 0#32 3#32 0#32 = corner (flip c 3) 0 ∧ k0_off4 c 0#32 4#32 688#32 = corner (flip c 4) 1
    ∧ k0_off4 c 1#32 3#32 0#32 = corner (flip c 2) 0 ∧ k0_off4 c 3#32 4#32 688#32 = corner (flip c 7) 1
    ∧ k0_off4 c 0#32 4#32 0#32 = corner (flip c 4) 0 ∧ k0_off4 c 1#32 4#32 0#32 = corner (flip c 5) 0
    ∧ k0_off4 c 3#32 4#32 0#32 = corner (flip c 7) 0 ∧ k0_off4 c 2#32 4#32 0#32 = corner (flip c 6) 0
    ∧ k0_off4 c 0#32 1#32 688#32 = corner (flip c 1) 1 ∧ k0_off4 c 3#32 1#32 688#32 = corner (flip c 2) 1
    ∧ k0_off4 c 4#32 1#32 688#32 = corner (flip c 5) 1 ∧ k0_off4 c 7#32 1#32 688#32 = corner (flip c 6) 1 := by
  revert c; decide +kernel
/-- in band 2. -/
theorem off5_eq (c : Dev nD) :
    k0_off5 c 0#32 4#32 = corner (flip c 4) 2 ∧ k0_off5 c 0#32 1#32 = corner (flip c 1) 2
    ∧ k0_off5 c 4#32 1#32 = corner (flip c 5) 2 ∧ k0_off5 c 0#32 3#32 = corner (flip c 3) 2
    ∧ k0_off5 c 4#32 3#32 = corner (flip c 7) 2 ∧ k0_off5 c 1#32 3#32 = corner (flip c 2) 2
    ∧ k0_off5 c 5#32 3#32 = corner (flip c 6) 2 := by
  revert c; decide +kernel
/-- The devices the barrier signals go to, and the copies. -/
theorem dev_eq (c : Dev nD) :
    k0_dev1 c = (flip c 1).val ∧ k0_dev2 c = (flip c 3).val ∧ k0_dev3 c = (flip c 4).val
    ∧ k0_dev4 c = (flip c 1).val ∧ k0_dev5 c = (flip c 3).val ∧ k0_dev6 c = (flip c 4).val
    ∧ k0_dev7 c = (flip c 3).val ∧ k0_dev8 c = (flip c 4).val ∧ k0_dev9 c = (flip c 1).val
    ∧ k0_dev10 c = (flip c 4).val ∧ k0_dev11 c = (flip c 1).val ∧ k0_dev12 c = (flip c 3).val
    ∧ k0_dev13 c = (flip c 3).val ∧ k0_dev14 c = (flip c 4).val ∧ k0_dev15 c = (flip c 4).val
    ∧ k0_dev16 c = (flip c 1).val ∧ k0_dev17 c = (flip c 1).val ∧ k0_dev18 c = (flip c 3).val
    ∧ k0_dev19 c = (flip c 4).val ∧ k0_dev20 c = (flip c 1).val ∧ k0_dev21 c = (flip c 3).val
    ∧ k0_dev22 c = (flip c 4).val ∧ k0_dev23 c = (flip c 1).val ∧ k0_dev24 c = (flip c 3).val := by
  revert c; decide +kernel

/-! ## One operation at a time -/

section Ops

variable {α : Type} {c : Dev nD} {r : Prog (TpuEff nD τ sig (Elt F) Λ₀ .tc) α} {l : List Step} {k : Copy}
  {rest : PUnit → Prog (TpuEff nD τ sig (Elt F) Λ₀ .tc) α} {o : Fin 2 → Nat} {inb : ∀ a, o a + Sizes k.1 a ≤ S16384x512.size a}

/-- A printed transfer is the start of the copy whose corner and device it computes. -/
theorem start_eq {n : Dev nD} {hsc : (oM.slice (Rect.unit (s := S16384x512) o (Sizes k.1) inb) (fun _ => rfl) : Memref sig (Dev.tc n : Thread nD τ).2.kind .vmem _ .bf16).view.ref.isScScratch = false}
    {h₁ h₂ : (oM.slice (Rect.unit (s := S16384x512) o (Sizes k.1) inb) (fun _ => rfl)).view.WordExact}
    {h₃ : DmaTarget.Typed .vmem (.dma (recvS k)) (.remote (Dev.tc n : Thread nD τ) (oM.slice (Rect.unit (s := S16384x512) o (Sizes k.1) inb) (fun _ => rfl)) (.dma (sendS k)) hsc)}
    (ho : o = corner (flip c (held k)) k.1) (hn : n = flip c (peer k)) (h : runs c r l = rest ⟨⟩) :
    runs c r (.start k :: l) =
    Prog.op (.enqueueDma (oM.slice (Rect.unit (s := S16384x512) o (Sizes k.1) inb) (fun _ => rfl))
      (.remote (Dev.tc n) (oM.slice (Rect.unit (s := S16384x512) o (Sizes k.1) inb) (fun _ => rfl)) (.dma (sendS k)) hsc) (.dma (recvS k)) h₁ h₂ h₃) rest := by
  subst ho hn
  rw [runs_cons, h]
  rfl

/-- A printed wait on a receive semaphore is the wait for the copy to arrive. -/
theorem arrive_eq {h₁ h₂ : (oM.slice (Rect.unit (s := S16384x512) o (Sizes k.1) inb) (fun _ => rfl)).view.WordExact}
    (ho : o = corner (flip c (got k)) k.1) (h : runs c r l = rest ⟨⟩) :
    runs c r (.arrive k :: l) =
    Prog.op (.waitDma2 (recvS k) (oM.slice (Rect.unit (s := S16384x512) o (Sizes k.1) inb) (fun _ => rfl))
      (oM.slice (Rect.unit (s := S16384x512) o (Sizes k.1) inb) (fun _ => rfl)) h₁ h₂) rest := by
  subst ho
  rw [runs_cons, h]
  rfl

/-- A printed wait on a send semaphore is the wait for the copy's source. -/
theorem drain_eq {h₁ h₂ : (oM.slice (Rect.unit (s := S16384x512) o (Sizes k.1) inb) (fun _ => rfl)).view.WordExact}
    (ho : o = corner (flip c (held k)) k.1) (h : runs c r l = rest ⟨⟩) :
    runs c r (.drain k :: l) =
    Prog.op (.waitDma2 (sendS k) (oM.slice (Rect.unit (s := S16384x512) o (Sizes k.1) inb) (fun _ => rfl))
      (oM.slice (Rect.unit (s := S16384x512) o (Sizes k.1) inb) (fun _ => rfl)) h₁ h₂) rest := by
  subst ho
  rw [runs_cons, h]
  rfl

end Ops

/-! ## The kernel -/

open Step in
/-- The steps after the barrier, in the order printed. -/
def steps : List Step :=
  [start (0, 0), start (1, 0), start (2, 0), start (0, 1), start (1, 1), start (2, 1), start (0, 3), start (1, 3), start (2, 3),
   arrive (0, 0), start (0, 2), start (0, 4), arrive (1, 0), start (1, 2), start (1, 4), arrive (2, 0), start (2, 2), start (2, 4),
   arrive (0, 1), start (0, 5), arrive (1, 1), start (1, 5), arrive (2, 1), start (2, 5),
   arrive (0, 2), start (0, 6), arrive (1, 2), start (1, 6), arrive (2, 2), start (2, 6),
   arrive (0, 3), arrive (0, 4), arrive (0, 5), arrive (0, 6), arrive (1, 3), arrive (1, 4), arrive (1, 5), arrive (1, 6),
   arrive (2, 3), arrive (2, 4), arrive (2, 5), arrive (2, 6),
   drain (0, 0), drain (0, 1), drain (0, 2), drain (0, 3), drain (0, 4), drain (0, 5), drain (0, 6),
   drain (1, 0), drain (1, 1), drain (1, 2), drain (1, 3), drain (1, 4), drain (1, 5), drain (1, 6),
   drain (2, 0), drain (2, 1), drain (2, 2), drain (2, 3), drain (2, 4), drain (2, 5), drain (2, 6)]

/-- The program before its steps: put the own chunk in place, tell three devices, hear from three. -/
def pre (rest : Dev nD → Prog (TpuEff nD τ sig (Elt F) Λ₀ .tc) PUnit) : Prog (TpuEff nD τ sig (Elt F) Λ₀ .tc) PUnit :=
  .op .deviceId fun c =>
  .op (.load xM (Rect.unit (s := S2048x512) ![0, 0] S2048x512.size inb_S2048x512_S2048x512_0_0).toLoadRect (View.loadsAt_vmem h_S2048x512)) fun v =>
  .op (.load oM (Rect.unit (s := S16384x512) (k0_off1 c) S2048x512.size (k0_off1_inb c)).toLoadRect (View.loadsAt_vmem h_S2048x512)) fun _ =>
  .op (.store oM (Rect.unit (s := S16384x512) (k0_off1 c) S2048x512.size (k0_off1_inb c)) (k0_pay1 v) Finset.univ
    (View.stores_vmem h_S2048x512 ((Memref.isWhole_whole cc0_stg1_0).storeExact_slice rfl _ (k0_off1_packedbf16 c)) (fun _ => rfl)) (.inl rfl)) fun _ =>
  .op (.semSignal (Dev.tc (flip c 1)) barS (1#32 : BitVec 32).toInt) fun _ =>
  .op (.semSignal (Dev.tc (flip c 3)) barS (1#32 : BitVec 32).toInt) fun _ =>
  .op (.semSignal (Dev.tc (flip c 4)) barS (1#32 : BitVec 32).toInt) fun _ =>
  .op (.semWait barS (3#32 : BitVec 32).toInt) fun _ => rest c

set_option maxRecDepth 65536 in
set_option maxHeartbeats 4000000 in
/-- The printed kernel is that program and the steps. -/
theorem body_eq : pre (F := F) (fun c => runs c (.ret ⟨⟩) steps)
    = cc0_body xM (Memref.isWhole_whole _) oM (Memref.isWhole_whole _) cc0_scratch0 cc0_scratch1 := by
  rw [cc0_body_eq_skeleton]; unfold cc0_body_skel pre
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  simp only [k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel]
  simp only [semSignalWord, semWaitWord, Prog.lift, Prog.bind_op, Prog.bind_ret, Prog.pure_eq_ret]
  refine congrArg (Prog.op _) (funext fun c => ?_)
  simp only [dev_eq c]
  refine congrArg (Prog.op _) (funext fun _ => ?_)
  refine congrArg (Prog.op _) (funext fun _ => ?_)
  refine congrArg (Prog.op _) (funext fun _ => ?_)
  refine congrArg (Prog.op _) (funext fun _ => ?_)
  refine congrArg (Prog.op _) (funext fun _ => ?_)
  refine congrArg (Prog.op _) (funext fun _ => ?_)
  refine congrArg (Prog.op _) (funext fun _ => ?_)
  unfold steps
  repeat first
    | refine start_eq (by simp only [off2_eq c, off3_eq c] <;> rfl) (by simp only [dev_eq c] <;> rfl) ?_
    | refine arrive_eq (by simp only [off4_eq c, off5_eq c] <;> rfl) ?_
    | refine drain_eq (by simp only [off2_eq c, off3_eq c] <;> rfl) ?_
  rfl

end Cert.Gather

end
-- ==== Proof.Regions.lean ====
/-
# Regions of the gathered array

The output is cut into 24 regions: band `s` of device `d`'s chunk. This module says that they cover the
output without overlap, which contents the gathered array has, and how the right to a region is shared
among the copies that read it.
-/
module

public import proofs.«01_k».proof.Proof.Route
public import Idealize.ShloMosaic.Lib.Ring

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state of the copies' cells, -/
abbrev UB : Type := URounds (GSem nD τ sig) (Fin 3)
/-- beside the pipeline's. -/
abbrev UU : Type := UR sig nD τ × UB

local notation "𝕄" => MT nD τ sig Unit (Elt F) ℕ UU ℕ

variable (m : (ℓ : Loc nD τ sig) → Buf (Elt F) ℓ) (ρ : Dev nD → PrngReg)

/-- The memory at launch: any contents, counters at zero, any generator registers. -/
def s₀ : MemSt nD τ sig (Elt F) := ⟨m, fun _ => 0, ρ⟩

/-! ## Rows -/

/-- How many rows a band has. -/
def bandRows : Fin 3 → Nat | 0 => 688 | 1 => 688 | 2 => 672

/-- A cell of the output. -/
abbrev OIdx : Type := (cc0_stg1_0 : Ref sig .tc).ty.shape.Idx

/-- The cells of a region. -/
abbrev R (d : Dev nD) (s : Fin 3) : Finset OIdx := (reg d s).view.set

theorem mem_R (d : Dev nD) (s : Fin 3) (i : OIdx) :
    i ∈ R d s ↔ 2048 * d.val + bandOff s ≤ (i 0).val ∧ (i 0).val < 2048 * d.val + bandOff s + bandRows s := by
  refine Iff.trans (show i ∈ R d s ↔ i ∈ (box d s).set by
    show i ∈ ((View.whole cc0_stg1_0).slice (box d s)).set ↔ _; rw [View.set_slice_whole]) ?_
  refine Rect.mem_set_unit.trans ?_
  constructor
  · intro h
    have h0 := h 0
    exact ⟨h0.1, by have := h0.2; revert this; fin_cases s <;> exact id⟩
  · rintro ⟨h1, h2⟩ a
    have hi : (i 1).val < 512 := (i 1).isLt
    fin_cases a
    · exact ⟨h1, by revert h2; fin_cases s <;> exact id⟩
    · refine ⟨Nat.zero_le _, ?_⟩
      fin_cases s <;> exact lt_of_lt_of_eq hi rfl

theorem R_disjoint (a b : Dev nD × Fin 3) (h : a ≠ b) : Disjoint (R a.1 a.2) (R b.1 b.2) := by
  rw [Finset.disjoint_left]
  intro i ha hb
  rw [mem_R] at ha hb
  obtain ⟨d, s⟩ := a
  obtain ⟨e, t⟩ := b
  have hd : d = e := by
    apply Fin.ext
    have := d.isLt; have := e.isLt
    fin_cases s <;> fin_cases t <;> simp only [bandOff, bandRows] at ha hb <;> omega
  subst hd
  refine h (congrArg (Prod.mk d) ?_)
  fin_cases s <;> fin_cases t <;> first | rfl | (exfalso; simp only [bandOff, bandRows] at ha hb; omega)

theorem R_cover : (Finset.univ : Finset (Dev nD × Fin 3)).biUnion (fun a => R a.1 a.2) = Finset.univ := by
  ext i
  simp only [Finset.mem_biUnion, Finset.mem_univ, true_and, iff_true]
  have hi : (i 0).val < 16384 := (i 0).isLt
  have hd : (i 0).val / 2048 < 8 := by omega
  by_cases h1 : (i 0).val % 2048 < 688
  · exact ⟨(⟨(i 0).val / 2048, hd⟩, 0), (mem_R _ _ _).mpr (by simp only [bandOff, bandRows]; omega)⟩
  by_cases h2 : (i 0).val % 2048 < 1376
  · exact ⟨(⟨(i 0).val / 2048, hd⟩, 1), (mem_R _ _ _).mpr (by simp only [bandOff, bandRows]; omega)⟩
  · exact ⟨(⟨(i 0).val / 2048, hd⟩, 2), (mem_R _ _ _).mpr (by simp only [bandOff, bandRows]; omega)⟩

/-! ## Contents -/

/-- Device `c`'s part of the input, staged. -/
def xstg (c : Dev nD) : (cc0_stg0_0 : Ref sig .tc).ty.Contents (Elt F) :=
  (win0_0.blk (0 : Fin 1)).view.read (Elt F) ((s₀ m ρ).mem ((c : Thread nD τ).loc main_arg0))

/-- The device whose chunk a row of the output lies in, -/
def chunkOf (i : OIdx) : Dev nD := ⟨(i 0).val / 2048, by have : (i 0).val < 16384 := (i 0).isLt; show _ < 8; omega⟩
/-- and where in the chunk. -/
def inChunk (i : OIdx) : S2048x512.Idx
  | ⟨0, _⟩ => ⟨(i 0).val % 2048, by show _ < 2048; omega⟩
  | ⟨1, _⟩ => ⟨(i 1).val, (i 1).isLt⟩

/-- The gathered array: every device's chunk in its place. -/
def full : (cc0_stg1_0 : Ref sig .tc).ty.Contents (Elt F) := fun i => k0_pay1 (xstg m ρ (chunkOf i)) (inChunk i)

/-- Where the own chunk is stored. -/
abbrev ownBox (c : Dev nD) : Rect S16384x512 := Rect.unit (s := S16384x512) (k0_off1 c) S2048x512.size (k0_off1_inb c)

theorem off1_eq (c : Dev nD) : k0_off1 c = ![2048 * c.val, 0] := by revert c; decide +kernel

/-- After the own chunk is stored, its three regions hold the gathered array. -/
theorem stored_own (c : Dev nD) (s : Fin 3) (f : (cc0_stg1_0 : Ref sig .tc).ty.Contents (Elt F)) (i : OIdx) (hi : i ∈ R c s) :
    (oM.access (ownBox c)).write (Elt F) f (k0_pay1 (xstg m ρ c)) Finset.univ i = full m ρ i := by
  rw [mem_R] at hi
  have hlo : 2048 * c.val ≤ (i 0).val := by omega
  have hhi : (i 0).val < 2048 * c.val + 2048 := by fin_cases s <;> simp only [bandOff, bandRows] at hi <;> omega
  have hc : chunkOf i = c := Fin.ext (by show (i 0).val / 2048 = c.val; omega)
  have he : (oM.access (ownBox c)).emb (inChunk i) = i := by
    funext a
    apply Fin.ext
    have h0 : k0_off1 c a = ![2048 * c.val, 0] a := congrFun (off1_eq c) a
    have h1 : ((oM.access (ownBox c)).emb (inChunk i) a : Nat) = k0_off1 c a + (inChunk i a).val := by
      show (((ownBox c).emb (inChunk i)) a : Nat) = _
      rw [Rect.emb_apply]
      show k0_off1 c a + 1 * _ = _
      rw [Nat.one_mul]
    rw [h1, h0]
    match a with
    | ⟨0, _⟩ =>
      show 2048 * c.val + (i 0).val % 2048 = (i 0).val
      omega
    | ⟨1, _⟩ =>
      show 0 + (i 1).val = (i 1).val
      omega
  conv_lhs => rw [← he]
  rw [View.write_emb_of_mem _ _ (Finset.mem_univ _)]
  unfold full
  rw [hc]
  rfl

/-! ## Holding a region -/

/-- A share of a region of device `c`'s output. -/
def pts (q : PosShare TreeShare) (f : (cc0_stg1_0 : Ref sig .tc).ty.Contents (Elt F)) (c d : Dev nD) (s : Fin 3) : sProp 𝕄 :=
  (reg d s).view.loc (c : Thread nD τ) ↦[(reg d s).view.set]{q} f

instance pts_storable (q) (f) (c d : Dev nD) (s : Fin 3) : BI.Storable (upEmb : UEmb _ 𝕄) (pts (F := F) q f c d s) := by
  unfold pts; infer_instance

theorem pts_congr (q) {f g : (cc0_stg1_0 : Ref sig .tc).ty.Contents (Elt F)} (c d : Dev nD) (s : Fin 3) (h : ∀ i ∈ R d s, f i = g i) :
    pts (F := F) q f c d s = pts q g c d s := pointsTo_congr h

/-- The whole output is its regions. -/
theorem out_regions (f : (cc0_stg1_0 : Ref sig .tc).ty.Contents (Elt F)) (c : Dev nD) :
    (((c : Thread nD τ).loc cc0_stg1_0) ↦{fullShare} f : sProp 𝕄)
      = bigSep Finset.univ fun a : Dev nD × Fin 3 => pts fullShare f c a.1 a.2 :=
  Ring.pointsTo_blocks (ℓ := (c : Thread nD τ).loc cc0_stg1_0) (fun a : Dev nD × Fin 3 => R a.1 a.2) R_disjoint R_cover f

/-- Writing what a region of the gathered array reads makes it the gathered array. -/
theorem pts_landed (g : (cc0_stg1_0 : Ref sig .tc).ty.Contents (Elt F)) (c d : Dev nD) (s : Fin 3) :
    pts (F := F) fullShare ((reg d s).view.write (Elt F) g ((reg d s).view.read (Elt F) (full m ρ)) Finset.univ) c d s
      = pts fullShare (full m ρ) c d s := by
  refine pts_congr _ c d s fun i hi => ?_
  rw [View.write_read_eq_piecewise]
  exact Finset.piecewise_eq_of_mem _ _ _ hi

/-! ## The regions as one device meets them -/

/-- Device `c`'s own three regions, and for each copy the one it brings. -/
def meet (c : Dev nD) : Fin 3 ⊕ Copy → Dev nD × Fin 3
  | .inl s => (c, s)
  | .inr k => (flip c (got k), k.1)

theorem meet_bijective (c : Dev nD) : Function.Bijective (meet c) := by
  rw [Fintype.bijective_iff_injective_and_card]
  refine ⟨?_, rfl⟩
  revert c; decide +kernel

theorem regions_split (c : Dev nD) (Φ : Dev nD × Fin 3 → sProp 𝕄) :
    bigSep Finset.univ Φ = iprop((bigSep Finset.univ fun s : Fin 3 => Φ (c, s)) ∗ bigSep Finset.univ fun k : Copy => Φ (flip c (got k), k.1)) := by
  rw [bigSep_univ_equiv (Equiv.ofBijective _ (meet_bijective c)) Φ]
  exact BI.bigSep_univ_sum _

/-! ## Sharing a region among the copies that read it -/

/-- The share of its source a copy takes. -/
def shareOf (k : Copy) : PosShare TreeShare :=
  match k.2 with
  | 0 => fullShare.left | 1 => fullShare.right.left | 3 => fullShare.right.right
  | 2 => fullShare.left | 4 => fullShare.right
  | 5 => fullShare | 6 => fullShare

/-- What copy `k` reads: its share of the region it carries. -/
def src (c : Dev nD) (k : Copy) : sProp 𝕄 := pts (shareOf k) (full m ρ) c (flip c (held k)) k.1

/-- The copies that pass on what copy `k` brought. -/
def deps (k : Copy) : Finset Copy :=
  match k.2 with
  | 0 => {(k.1, 2), (k.1, 4)} | 1 => {(k.1, 5)} | 2 => {(k.1, 6)} | _ => ∅

/-- What copy `k` brought, if no copy passes it on. -/
def kept (c : Dev nD) (k : Copy) : sProp 𝕄 :=
  if deps k = ∅ then pts fullShare (full m ρ) c (flip c (got k)) k.1 else iprop(emp)

theorem sep_nothing (P : sProp 𝕄) : iprop(P ∗ emp) = P := equiv_iff.mp sep_emp
theorem nothing_sep (P : sProp 𝕄) : iprop(emp ∗ P) = P := equiv_iff.mp emp_sep

theorem sep_assoc_eq (P Q R : sProp 𝕄) : iprop((P ∗ Q) ∗ R) = iprop(P ∗ Q ∗ R) := by
  have h1 : iprop((P ∗ Q) ∗ R) ⊢ iprop(P ∗ Q ∗ R) := by
    iintro ⟨⟨H1, H2⟩, H3⟩
    isplitl [H1]; · iexact H1
    isplitl [H2] <;> iassumption
  have h2 : iprop(P ∗ Q ∗ R) ⊢ iprop((P ∗ Q) ∗ R) := by
    iintro ⟨H1, H2, H3⟩
    isplitl [H1 H2]
    · isplitl [H1] <;> iassumption
    · iexact H3
  exact BI.Entails.antisymm h1 h2

theorem flip_zero (c : Dev nD) : flip c 0 = c := by revert c; decide +kernel

theorem pts_halves (q) (f : (cc0_stg1_0 : Ref sig .tc).ty.Contents (Elt F)) (c d : Dev nD) (s : Fin 3) :
    pts (F := F) q f c d s = iprop(pts q.left f c d s ∗ pts q.right f c d s) :=
  BI.Entails.antisymm (pointsTo_share (PosShare.mem_left_op_right q)).1 (pointsTo_share (PosShare.mem_left_op_right q)).2

theorem own_shared (c : Dev nD) (s : Fin 3) :
    pts fullShare (full m ρ) c c s = iprop(src m ρ c (s, 0) ∗ src m ρ c (s, 1) ∗ src m ρ c (s, 3)) := by
  rw [pts_halves, pts_halves fullShare.right]
  show _ = iprop(pts fullShare.left (full m ρ) c (flip c 0) s ∗ pts fullShare.right.left (full m ρ) c (flip c 0) s
    ∗ pts fullShare.right.right (full m ρ) c (flip c 0) s)
  rw [flip_zero]

theorem got_shared (c : Dev nD) (k : Copy) :
    pts fullShare (full m ρ) c (flip c (got k)) k.1 = iprop(bigSep (deps k) (src m ρ c) ∗ kept m ρ c k) := by
  obtain ⟨s, e⟩ := k
  have hne (a b : Fin 7) (h : a ≠ b) : (s, a) ∉ ({(s, b)} : Finset Copy) := fun h' => h (congrArg Prod.snd (Finset.mem_singleton.mp h'))
  have hz : got (s, 0) = dir s 0 := by revert s; decide
  have h1 : got (s, 1) = dir s 1 := by revert s; decide
  have h2 : got (s, 2) = mix (dir s 0) (dir s 1) := by revert s; decide
  match e with
  | 0 =>
    show _ = iprop(bigSep ({(s, 2), (s, 4)} : Finset Copy) (src m ρ c) ∗ kept m ρ c (s, 0))
    rw [show kept m ρ c (s, 0) = iprop(emp) from if_neg (Finset.insert_ne_empty _ _), sep_nothing,
      bigSep_insert (hne 2 4 (by decide)), bigSep_singleton, pts_halves, hz]
    rfl
  | 1 =>
    show _ = iprop(bigSep ({(s, 5)} : Finset Copy) (src m ρ c) ∗ kept m ρ c (s, 1))
    rw [show kept m ρ c (s, 1) = iprop(emp) from if_neg (Finset.singleton_ne_empty _), sep_nothing, bigSep_singleton, h1]
    rfl
  | 2 =>
    show _ = iprop(bigSep ({(s, 6)} : Finset Copy) (src m ρ c) ∗ kept m ρ c (s, 2))
    rw [show kept m ρ c (s, 2) = iprop(emp) from if_neg (Finset.singleton_ne_empty _), sep_nothing, bigSep_singleton, h2]
    rfl
  | 3 | 4 | 5 | 6 =>
    show _ = iprop(bigSep (∅ : Finset Copy) (src m ρ c) ∗ kept m ρ c _)
    refine Eq.trans ?_ (nothing_sep _).symm
    exact (if_pos rfl).symm

/-- The copies whose source is there from the start. -/
def first : Finset Copy := Finset.univ.filter fun k => held k = 0

/-- A device's own regions are the sources of the copies that start from them. -/
theorem own_first (c : Dev nD) :
    (bigSep Finset.univ fun s : Fin 3 => pts fullShare (full m ρ) c c s) = bigSep first (src m ρ c) := by
  rw [show first = Finset.univ.biUnion fun s : Fin 3 => ({(s, 0), (s, 1), (s, 3)} : Finset Copy) by decide]
  rw [bigSep_biUnion_eq _ _ _ (by decide)]
  refine bigSep_congr fun s _ => ?_
  rw [own_shared, bigSep_insert (by revert s; decide), bigSep_insert (by revert s; decide), bigSep_singleton]
  rfl

/-- All sources and all that was kept make up the whole gathered array again. -/
theorem collect (c : Dev nD) :
    iprop(bigSep Finset.univ (src m ρ c) ∗ bigSep Finset.univ (kept m ρ c))
      = (((c : Thread nD τ).loc cc0_stg1_0) ↦{fullShare} full m ρ : sProp 𝕄) := by
  rw [out_regions, regions_split c]
  have h2 : (bigSep Finset.univ fun k : Copy => pts fullShare (full m ρ) c (flip c (got k)) k.1)
      = iprop(bigSep (Finset.univ.biUnion deps) (src m ρ c) ∗ bigSep Finset.univ (kept m ρ c)) := by
    rw [bigSep_biUnion_eq _ _ _ (by decide), ← bigSep_sep']
    exact bigSep_congr fun k _ => got_shared m ρ c k
  have h3 : bigSep Finset.univ (src m ρ c) = iprop(bigSep first (src m ρ c) ∗ bigSep (Finset.univ.biUnion deps) (src m ρ c)) :=
    (congrArg (bigSep · (src m ρ c)) (show (Finset.univ : Finset Copy) = first ∪ Finset.univ.biUnion deps by decide)).trans
      (bigSep_union (by decide))
  rw [own_first, h2, h3, sep_assoc_eq]

end Cert.Gather

end
-- ==== Proof.Schedule.lean ====
/-
# The schedule of the copies

Every semaphore the kernel uses is a cell with one round. A barrier cell has three duties, one for each
neighbour that signals it; a neighbour hands over the regions of its own output that will be written by
the device it signals. A send or receive cell has one duty: the copy's source comes back, or the region
it filled arrives.
-/
module

public import proofs.«01_k».proof.Proof.Steps
public import proofs.«01_k».proof.Proof.Regions

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells -/

/-- A device's cells: the barrier, a send cell and a receive cell for each copy. -/
abbrev Ci : Type := Option (Copy ⊕ Copy)

/-- The semaphore of a cell. -/
@[reducible] def csem : Ci → SemLoc sig
  | none => .reg barS
  | some (.inl k) => .dma (sendS k)
  | some (.inr k) => .dma (recvS k)

theorem csem_injective : Function.Injective csem := by decide +kernel

abbrev kcell (x : Dev nD × Ci) : GSem nD τ sig := ((x.1 : Thread nD τ), csem x.2)
abbrev barCell (c : Dev nD) : GSem nD τ sig := kcell (c, none)
abbrev sendCell (c : Dev nD) (k : Copy) : GSem nD τ sig := kcell (c, some (.inl k))
abbrev recvCell (c : Dev nD) (k : Copy) : GSem nD τ sig := kcell (c, some (.inr k))

theorem kcell_injective : Function.Injective kcell := by
  rintro ⟨c, i⟩ ⟨d, j⟩ h
  have h1 : c = d := congrArg (fun g : GSem nD τ sig => g.1.1) h
  have h2 : i = j := csem_injective (congrArg Prod.snd h)
  rw [h1, h2]

open Classical in
/-- The cell of a semaphore. -/
def look (s : SemLoc sig) : Option Ci := if h : ∃ i, csem i = s then some h.choose else none

theorem look_csem (i : Ci) : look (csem i) = some i := by
  have h : ∃ j, csem j = csem i := ⟨i, rfl⟩
  rw [look, dif_pos h]
  exact congrArg some (csem_injective h.choose_spec)

theorem look_none {s : SemLoc sig} (h : ∀ i, csem i ≠ s) : look s = none := dif_neg fun ⟨i, hi⟩ => h i hi

/-! ## What changes hands -/

/-- What a transfer of a band adds to a semaphore. -/
def N (s : Fin 3) : ℕ := (reg 0 s).view.dmaCredit

theorem N_pos : ∀ s, 0 < N s
  | 0 => View.dmaCredit_pos _ (by decide)
  | 1 => View.dmaCredit_pos _ (by decide)
  | 2 => View.dmaCredit_pos _ (by decide)

theorem credit_eq (d : Dev nD) (s : Fin 3) : (reg d s).view.dmaCredit = N s := rfl

/-- The three directions in which the barrier is signalled. -/
def mask : Fin 3 → Fin 8 | 0 => 1 | 1 => 3 | 2 => 4

/-- The copies a device sends in a direction. -/
def along (j : Fin 3) : Finset Copy := Finset.univ.filter fun k => peer k = mask j

theorem along_cover : Finset.univ.biUnion along = Finset.univ := by decide
theorem along_disjoint : ∀ i ∈ (Finset.univ : Finset (Fin 3)), ∀ j ∈ (Finset.univ : Finset (Fin 3)), i ≠ j → Disjoint (along i) (along j) := by decide

/-- Room for copy `k` of device `c` at its receiver. -/
def room (c : Dev nD) (k : Copy) : sProp 𝕄 := iprop(∃ f, pts fullShare f (flip c (peer k)) (flip c (held k)) k.1)

/-- What the neighbour of `c` in direction `j` hands it: room for the copies it will send there. -/
def barPay (c : Dev nD) (j : Fin 3) : sProp 𝕄 := bigSep (along j) (room c)
/-- What a copy to `c` brings. -/
def recvPay (c : Dev nD) (k : Copy) : sProp 𝕄 := pts fullShare (full m ρ) c (flip c (got k)) k.1

instance room_storable (c : Dev nD) (k : Copy) : BI.Storable (upEmb : UEmb _ 𝕄) (room (F := F) c k) := by unfold room; infer_instance
instance barPay_storable (c : Dev nD) (j : Fin 3) : BI.Storable (upEmb : UEmb _ 𝕄) (barPay (F := F) c j) := by unfold barPay; infer_instance
instance recvPay_storable (c : Dev nD) (k : Copy) : BI.Storable (upEmb : UEmb _ 𝕄) (recvPay m ρ c k) := by unfold recvPay; infer_instance
instance src_storable (c : Dev nD) (k : Copy) : BI.Storable (upEmb : UEmb _ 𝕄) (src m ρ c k) := by unfold src; infer_instance

def cellDuties : Option Ci → Finset (Fin 3)
  | some none => Finset.univ | some (some _) => {0} | none => ∅
def cellAmount : Option Ci → ℕ
  | some (some (.inl k)) => N k.1 | some (some (.inr k)) => N k.1 | _ => 1
def cellPay (c : Dev nD) (d : Fin 3) : Option Ci → sProp 𝕄
  | some none => barPay c d | some (some (.inl k)) => src m ρ c k | some (some (.inr k)) => recvPay m ρ c k | none => iprop(emp)

/-- The schedule. -/
def Rd : Rounds.Schedule (GSem nD τ sig) (Fin 3) 𝕄 where
  duties g r := if r = 0 ∧ g.1.2 = .tc then cellDuties (look g.2) else ∅
  unitless _ := False
  amount g _ _ := cellAmount (look g.2)
  payload g _ d := cellPay m ρ g.1.1 d (look g.2)
  amount_pos g _ _ _ := by
    unfold cellAmount
    split
    · exact N_pos _
    · exact N_pos _
    · exact Nat.one_pos

instance Rd_storable (g : GSem nD τ sig) (r : ℕ) (d : Fin 3) : BI.Storable (upEmb : UEmb _ 𝕄) ((Rd m ρ).payload g r d) := by
  show BI.Storable upEmb (cellPay m ρ g.1.1 d (look g.2))
  unfold cellPay
  split <;> infer_instance

section Facts
variable (c : Dev nD) (i : Ci) (k : Copy) (d : Fin 3)

theorem duties_cell : (Rd m ρ).duties (kcell (c, i)) 0 = cellDuties (some i) := by
  dsimp only [Rd]
  rw [if_pos ⟨rfl, rfl⟩, look_csem]
theorem duties_later (g : GSem nD τ sig) : ∀ r, 1 ≤ r → (Rd m ρ).duties g r = ∅ :=
  fun r hr => if_neg fun h => by have := h.1; omega
theorem amount_cell : (Rd m ρ).amount (kcell (c, i)) 0 d = cellAmount (some i) := by
  show cellAmount (look (csem i)) = _; rw [look_csem]
theorem payload_cell : (Rd m ρ).payload (kcell (c, i)) 0 d = cellPay m ρ c d (some i) := by
  show cellPay m ρ c d (look (csem i)) = _; rw [look_csem]

theorem expect_bar : (Rd m ρ).expect (barCell c) 0 = 3 := by
  unfold Schedule.expect Schedule.amountOf
  rw [duties_cell, Finset.sum_congr rfl fun d _ => amount_cell m ρ c none d]
  rfl
theorem expect_send : (Rd m ρ).expect (sendCell c k) 0 = N k.1 := by
  unfold Schedule.expect Schedule.amountOf
  rw [duties_cell, Finset.sum_congr rfl fun d _ => amount_cell m ρ c (some (.inl k)) d]
  exact Finset.sum_singleton _ _
theorem expect_recv : (Rd m ρ).expect (recvCell c k) 0 = N k.1 := by
  unfold Schedule.expect Schedule.amountOf
  rw [duties_cell, Finset.sum_congr rfl fun d _ => amount_cell m ρ c (some (.inr k)) d]
  exact Finset.sum_singleton _ _

/-- A barrier round brings room for every copy. -/
theorem rest_bar : bigSep ((Rd m ρ).duties (barCell c) 0 \ ∅) (fun d => (Rd m ρ).payload (barCell c) 0 d) = bigSep Finset.univ (room (F := F) c) := by
  rw [Finset.sdiff_empty, duties_cell, bigSep_congr fun d _ => payload_cell m ρ c none d]
  show bigSep Finset.univ (fun j => bigSep (along j) (room (F := F) c)) = _
  rw [← bigSep_biUnion_eq _ _ _ along_disjoint, along_cover]
theorem rest_send : bigSep ((Rd m ρ).duties (sendCell c k) 0 \ ∅) (fun d => (Rd m ρ).payload (sendCell c k) 0 d) = src m ρ c k := by
  rw [Finset.sdiff_empty, duties_cell, bigSep_congr fun d _ => payload_cell m ρ c (some (.inl k)) d]
  exact bigSep_singleton
theorem rest_recv : bigSep ((Rd m ρ).duties (recvCell c k) 0 \ ∅) (fun d => (Rd m ρ).payload (recvCell c k) 0 d) = recvPay m ρ c k := by
  rw [Finset.sdiff_empty, duties_cell, bigSep_congr fun d _ => payload_cell m ρ c (some (.inr k)) d]
  exact bigSep_singleton

end Facts

/-! ## What is owed, and in which order it may be waited for -/

/-- What a step owes another device. -/
def due (c : Dev nD) : Step → CellTallies nD τ sig Unit
  | .start k => tallyAt (recvCell (flip c (peer k)) k) () (N k.1)
  | _ => 0

/-- What a device owes before a list of steps. -/
def owedL (c : Dev nD) : List Step → CellTallies nD τ sig Unit
  | [] => 0
  | a :: l => owedL c l + due c a

/-- A signal still to be given. -/
def sig1 (c : Dev nD) (j : Fin 3) : CellTallies nD τ sig Unit := tallyAt (barCell (flip c (mask j))) () 1

/-- What a device owes at launch. -/
def O₀ (c : Dev nD) : CellTallies nD τ sig Unit := owedL c steps + sig1 c 2 + sig1 c 1 + sig1 c 0

/-- The level of a receive cell: a copy passed on is above the copy it passes on. -/
def rank (k : Copy) : ℕ := match k.2 with | 0 => 2 | 1 => 2 | 2 => 3 | _ => 4

def cellLevel : Option Ci → ℕ
  | some none => 1 | some (some (.inr k)) => rank k | _ => 0

def L (g : GSem nD τ sig) : Finset Unit := if g.1.2 = .tc then {()} else ∅
def lv (g : GSem nD τ sig) (_ : Unit) : ℕ := cellLevel (look g.2)

theorem L_of_ne (g : GSem nD τ sig) (h : g.1.2 ≠ .tc) : L g = ∅ := if_neg h
theorem L_tc (c : Dev nD) (sm : SemLoc sig) (u : Unit) : u ∈ L ((c : Thread nD τ), sm) := by
  rw [L, if_pos rfl]; exact Finset.mem_singleton_self _
theorem lv_cell (c : Dev nD) (i : Ci) (u : Unit) : lv (kcell (c, i)) u = cellLevel (some i) := by
  unfold lv; rw [look_csem]

theorem tallyAt_pos {g h : GSem nD τ sig} {n : ℕ} {u : Unit} (hp : 0 < tallyAt g () n h u) : h = g := by
  rw [tallyAt_apply] at hp
  by_contra hn
  rw [if_neg (fun h' => hn h'.1)] at hp
  exact Nat.lt_irrefl 0 hp

theorem owedL_pos (c : Dev nD) {g : GSem nD τ sig} {u : Unit} : ∀ l : List Step, 0 < owedL c l g u →
    ∃ k, Step.start k ∈ l ∧ g = recvCell (flip c (peer k)) k
  | [], h => absurd h (Nat.lt_irrefl 0)
  | a :: l, h => by
    unfold owedL at h
    rw [Pi.add_apply, Finsupp.add_apply] at h
    rcases Nat.eq_zero_or_pos (owedL c l g u) with hz | hz
    · rw [hz, Nat.zero_add] at h
      cases a with
      | start k => exact ⟨k, List.mem_cons_self, tallyAt_pos h⟩
      | arrive k => exact absurd h (Nat.lt_irrefl 0)
      | drain k => exact absurd h (Nat.lt_irrefl 0)
    · obtain ⟨k, hk, hg⟩ := owedL_pos c l hz
      exact ⟨k, List.mem_cons_of_mem _ hk, hg⟩

theorem O₀_pos (c : Dev nD) {g : GSem nD τ sig} {u : Unit} (h : 0 < O₀ c g u) :
    (∃ k, g = recvCell (flip c (peer k)) k) ∨ ∃ j, g = barCell (flip c (mask j)) := by
  unfold O₀ sig1 at h
  rw [Pi.add_apply, Finsupp.add_apply, Pi.add_apply, Finsupp.add_apply, Pi.add_apply, Finsupp.add_apply] at h
  by_cases h0 : 0 < owedL c steps g u
  · obtain ⟨k, -, hg⟩ := owedL_pos c _ h0
    exact Or.inl ⟨k, hg⟩
  by_cases h1 : 0 < tallyAt (barCell (flip c (mask 2))) () 1 g u
  · exact Or.inr ⟨2, tallyAt_pos h1⟩
  by_cases h2 : 0 < tallyAt (barCell (flip c (mask 1))) () 1 g u
  · exact Or.inr ⟨1, tallyAt_pos h2⟩
  · rw [Nat.eq_zero_of_not_pos h0, Nat.eq_zero_of_not_pos h1, Nat.eq_zero_of_not_pos h2] at h
    rw [Nat.zero_add] at h
    exact Or.inr ⟨0, tallyAt_pos h⟩

theorem rank_pos : ∀ k, 1 < rank k := by decide

/-- Waiting on one of its cells, a device owes only higher ones. -/
theorem mayWait_steps (c : Dev nD) (i : Ci) (l : List Step) (h : ∀ k, Step.start k ∈ l → cellLevel (some i) < rank k) :
    (levAts L lv : sProp 𝕄) ⊢ MayWait (c : Thread nD τ) (csem i) () (owedL c l) :=
  MayOwe.of_cut (L := L) (lev := lv) (cellLevel (some i)) (fun p hp => L_tc c _ _)
    (fun g u hg => by obtain ⟨k, -, rfl⟩ := owedL_pos c l hg; exact L_tc _ _ _)
    (fun p hp => by rw [Finset.mem_singleton.mp hp]; exact le_of_eq (lv_cell c i ()))
    (fun g u hg => by obtain ⟨k, hk, rfl⟩ := owedL_pos c l hg; rw [lv_cell]; exact h k hk)

/-- The pipeline's own waits are below all that is owed. -/
theorem mayWait_stage (c : Dev nD) (q : DmaSem sig) (hq : ∀ i, csem i ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => L_tc c _ _)
      (fun g u hg => by rcases O₀_pos c hg with ⟨k, rfl⟩ | ⟨j, rfl⟩ <;> exact L_tc _ _ _)
      (fun p hp => by rw [Finset.mem_singleton.mp hp]; unfold lv; rw [look_none hq]; exact le_refl _)
      (fun g u hg => by
        rcases O₀_pos c hg with ⟨k, rfl⟩ | ⟨j, rfl⟩
        · rw [lv_cell]; exact lt_trans Nat.one_pos (rank_pos k)
        · rw [lv_cell]; exact Nat.one_pos)
  · rw [MayWait_zero]; iintro -; iempintro

end Cert.Gather

end
-- ==== Proof.Run.lean ====
/-
# Running the steps

A list of steps may be run when each copy's source is at hand when it starts, each source is waited for
after its copy has started, and nothing is waited for below what is still owed. `fine` checks this for a
list; `run_steps` is the proof that a fine list runs, one induction over the list.
-/
module

public import proofs.«01_k».proof.Proof.Schedule

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg) (K : Dev nD × Ci → ℕ)

/-! ## What everyone knows -/

/-- Every cell's invariant, under the name the launch gave it, and that every cell has reached its round. -/
def records : sProp 𝕄 :=
  iprop((bigSep Finset.univ fun x : Dev nD × Ci => cellInv ER (Rd m ρ) (K x) (kcell x))
    ∗ bigSep Finset.univ fun x : Dev nD × Ci => reached ER (kcell x) 0)

instance records_persistent : BI.Persistent (records m ρ K) := by unfold records; infer_instance

theorem inv_at (x : Dev nD × Ci) : records m ρ K ⊢ cellInv ER (Rd m ρ) (K x) (kcell x) := by
  unfold records
  iintro ⟨H, -⟩
  iapply (show (bigSep Finset.univ fun x : Dev nD × Ci => (cellInv ER (Rd m ρ) (K x) (kcell x) : sProp 𝕄)) ⊢ _ from bigSep_elim (Finset.mem_univ x))
  iexact H
theorem reached_at (x : Dev nD × Ci) : records m ρ K ⊢ reached ER (kcell x) 0 := by
  unfold records
  iintro ⟨-, H⟩
  iapply (show (bigSep Finset.univ fun x : Dev nD × Ci => (reached ER (kcell x) 0 : sProp 𝕄)) ⊢ _ from bigSep_elim (Finset.mem_univ x))
  iexact H

/-! ## What a step takes and gives -/

/-- What a step needs for itself. -/
def need (c : Dev nD) : Step → sProp 𝕄
  | .start k => iprop(dutyTok ER (sendCell c k) 0 0 ∗ dutyTok ER (recvCell (flip c (peer k)) k) 0 0 ∗ room c k)
  | .arrive k => iprop(cred (tallyAt (recvCell c k) () (N k.1)) ∗ atPos ER (recvCell c k) 0 ∅ 0)
  | .drain k => atPos ER (sendCell c k) 0 ∅ 0

/-- What a step leaves for good. -/
def yield (c : Dev nD) : Step → sProp 𝕄
  | .start _ => iprop(emp)
  | .arrive k => iprop(kept m ρ c k ∗ semVal (recvCell c k) 0)
  | .drain k => iprop(src m ρ c k ∗ semVal (sendCell c k) 0)

/-- A copy under way, seen from its sender. -/
def flying (c : Dev nD) (k : Copy) : sProp 𝕄 := cred (tallyAt (sendCell c k) () (N k.1))

/-- What a list still starts. -/
def starts : List Step → List Copy
  | [] => []
  | .start k :: l => k :: starts l
  | .arrive _ :: l => starts l
  | .drain _ :: l => starts l

theorem mem_starts (k : Copy) : ∀ l : List Step, Step.start k ∈ l → k ∈ starts l
  | .start j :: l, h => by
    rcases List.mem_cons.mp h with h | h
    · cases h; exact List.mem_cons_self
    · exact List.mem_cons_of_mem _ (mem_starts k l h)
  | .arrive j :: l, h => mem_starts k l ((List.mem_cons.mp h).resolve_left (fun h => by cases h))
  | .drain j :: l, h => mem_starts k l ((List.mem_cons.mp h).resolve_left (fun h => by cases h))

/-- Whether a list may be run with the sources `A` at hand and the copies `B` under way. -/
def fine : List Step → Finset Copy → Finset Copy → Bool
  | [], _, _ => true
  | .start k :: l, A, B => decide (k ∈ A) && decide (k ∉ B) && fine l (A.erase k) (insert k B)
  | .arrive k :: l, A, B => decide (Disjoint A (deps k)) && (starts l).all (fun j => decide (rank k < rank j)) && fine l (A ∪ deps k) B
  | .drain k :: l, A, B => decide (k ∈ B) && fine l A (B.erase k)

set_option maxRecDepth 100000 in
/-- The kernel's steps are fine. -/
theorem steps_fine : fine steps first ∅ = true := by decide +kernel

/-! ## One step -/

section Step

variable (c : Dev nD) (k : Copy) (W : Waits sig Unit)

/-- What a copy writes is what its receiver is owed. -/
theorem sent_pay (f : (cc0_stg1_0 : Ref sig .tc).ty.Contents (Elt F)) :
    pts fullShare ((reg (flip c (held k)) k.1).view.write (Elt F) f ((reg (flip c (held k)) k.1).view.read (Elt F) (full m ρ)) Finset.univ)
        (flip c (peer k)) (flip c (held k)) k.1
      = recvPay m ρ (flip c (peer k)) k := by
  rw [pts_landed]; unfold recvPay; rw [flip_got]

/-- Starting a copy, for the library's rule. -/
theorem send_rule {α : Type} {Q : α → sProp 𝕄} {rest : Prog (TpuEff nD τ sig (Elt F) Λ₀ .tc) α} (O : CellTallies nD τ sig Unit) (f : (cc0_stg1_0 : Ref sig .tc).ty.Contents (Elt F)) :
    iprop(cellInv ER (Rd m ρ) (K (c, some (.inl k))) (sendCell c k) ∗ cellInv ER (Rd m ρ) (K (flip c (peer k), some (.inr k))) (recvCell (flip c (peer k)) k)
        ∗ src m ρ c k ∗ pts fullShare f (flip c (peer k)) (flip c (held k)) k.1
        ∗ owes (c : Thread nD τ) (O + due c (.start k)) W
        ∗ dutyTok ER (sendCell c k) 0 0 ∗ reached ER (sendCell c k) 0
        ∗ dutyTok ER (recvCell (flip c (peer k)) k) 0 0 ∗ reached ER (recvCell (flip c (peer k)) k) 0)
      ⊢ iprop(((flying c k ∗ owes (c : Thread nD τ) O W) -∗ wp frame (wpE (defs₀ (F := F)) 𝒱₀ (c : Thread nD τ) none) Set.univ rest Q)
          -∗ wp frame (wpE (defs₀ (F := F)) 𝒱₀ (c : Thread nD τ) none) Set.univ (Step.run c rest (.start k)) Q) := by
  have hd1 : (0 : Fin 3) ∈ (Rd m ρ).duties (sendCell c k) 0 := by rw [duties_cell]; exact Finset.mem_singleton_self _
  have hd2 : (0 : Fin 3) ∈ (Rd m ρ).duties (recvCell (flip c (peer k)) k) 0 := by rw [duties_cell]; exact Finset.mem_singleton_self _
  have hp1 : src m ρ c k ⊢ (Rd m ρ).payload (sendCell c k) 0 0 := by rw [payload_cell]; exact BI.Entails.refl _
  have hp2 : pts fullShare ((reg (flip c (held k)) k.1).view.write (Elt F) f ((reg (flip c (held k)) k.1).view.read (Elt F) (full m ρ)) Finset.univ)
      (flip c (peer k)) (flip c (held k)) k.1 ⊢ (Rd m ρ).payload (recvCell (flip c (peer k)) k) 0 0 := by
    rw [payload_cell]; exact Entails.of_eq (sent_pay m ρ c k f)
  have hN1 : (Rd m ρ).amount (sendCell c k) 0 0 = N k.1 := amount_cell m ρ c _ 0
  have hN2 : (Rd m ρ).amount (recvCell (flip c (peer k)) k) 0 0 = N k.1 := amount_cell m ρ _ _ 0
  have hr : τ.routes (c : Thread nD τ) (flip c (peer k) : Thread nD τ) = true := by routes
  exact Rounds.wp_send_pointsTo 𝒱₀ ER (Rd m ρ) (c : Thread nD τ) none (k := fun _ => rest) (Q := Q) (c' := (flip c (peer k) : Thread nD τ))
    (src := reg (flip c (held k)) k.1) (dst := reg (flip c (held k)) k.1) (sS := .dma (sendS k)) (sem := .dma (recvS k)) (q := shareOf k) (fs := full m ρ)
    (κ₁ := K (c, some (.inl k))) (κ₂ := K (flip c (peer k), some (.inr k)))
    (r₁ := 0) (r₂ := 0) (d₁ := 0) (d₂ := 0) (fd := f) hd1 hd2 () () (N k.1) (credit_eq (flip c (held k)) k.1) hN1 hN2 O rfl (W := W) hp1 hp2 hr

theorem step_start {α : Type} {Q : α → sProp 𝕄} {rest : Prog (TpuEff nD τ sig (Elt F) Λ₀ .tc) α} (O : CellTallies nD τ sig Unit) :
    iprop(records m ρ K ∗ need c (.start k) ∗ src m ρ c k ∗ owes (c : Thread nD τ) (O + due c (.start k)) W
        ∗ ((flying c k ∗ owes (c : Thread nD τ) O W) -∗ wp frame (wpE (defs₀ (F := F)) 𝒱₀ (c : Thread nD τ) none) Set.univ rest Q))
      ⊢ wp frame (wpE (defs₀ (F := F)) 𝒱₀ (c : Thread nD τ) none) Set.univ (Step.run c rest (.start k)) Q := by
  unfold need room
  iintro ⟨#HR, ⟨Ht1, Ht2, %f, Hd⟩, Hs, HO, Hk⟩
  iapply (send_rule m ρ K c k W O f) $$ [Ht1 Ht2 Hd Hs HO]
  · isplitr; · iapply (inv_at m ρ K (c, some (.inl k))); iexact HR
    isplitr; · iapply (inv_at m ρ K (flip c (peer k), some (.inr k))); iexact HR
    isplitl [Hs]; · iexact Hs
    isplitl [Hd]; · iexact Hd
    isplitl [HO]; · iexact HO
    isplitl [Ht1]; · iexact Ht1
    isplitr; · iapply (reached_at m ρ K (c, some (.inl k))); iexact HR
    isplitl [Ht2]; · iexact Ht2
    iapply (reached_at m ρ K (flip c (peer k), some (.inr k))); iexact HR
  iexact Hk

theorem step_arrive {α : Type} {Q : α → sProp 𝕄} {rest : Prog (TpuEff nD τ sig (Elt F) Λ₀ .tc) α} (l : List Step) (h : ∀ j, Step.start j ∈ l → rank k < rank j) :
    iprop(records m ρ K ∗ levAts L lv ∗ need c (.arrive k) ∗ owes (c : Thread nD τ) (owedL c l) W
        ∗ ((bigSep (deps k) (src m ρ c) ∗ yield m ρ c (.arrive k) ∗ owes (c : Thread nD τ) (owedL c l) (insert (SemLoc.dma (recvS k), ()) W))
            -∗ wp frame (wpE (defs₀ (F := F)) 𝒱₀ (c : Thread nD τ) none) Set.univ rest Q))
      ⊢ wp frame (wpE (defs₀ (F := F)) 𝒱₀ (c : Thread nD τ) none) Set.univ (Step.run c rest (.arrive k)) Q := by
  unfold need yield Step.run
  iintro ⟨#HR, #Hlev, ⟨Hc, Hat⟩, HO, Hk⟩
  iapply (Rounds.wp_wait_rest_token 𝒱₀ ER (Rd m ρ) (c : Thread nD τ) none (κ := K (c, some (.inr k)))
      (wpE_waitDma2_eq 𝒱₀ (c : Thread nD τ) none Set.univ) (Set.mem_univ _) () (O := owedL c l) (W := W) (R := 0) (m := 0) (T := ∅)
      (by rw [Nat.zero_add, credit_eq]; exact (expect_recv m ρ c k).symm)) $$ [Hc HO Hat]
  · isplitr; · iapply (inv_at m ρ K (c, some (.inr k))); iexact HR
    isplitl [Hc]; · iexact Hc
    isplitl [HO]; · iexact HO
    isplitr; · iapply (mayWait_steps c (some (.inr k)) l h); iexact Hlev
    iexact Hat
  iintro ⟨HO, Hat, -, Hpay⟩
  ihave Hp := (Entails.of_eq ((rest_recv m ρ c k).trans (got_shared m ρ c k))) $$ Hpay
  icases Hp with ⟨Hs, Hkept⟩
  imod (Rounds.cell_close ER (Rd m ρ) (Set.mem_univ (K (c, some (.inr k)))) (fun h => h) (R := 0 + 1) (duties_later m ρ (recvCell c k))) $$ [Hat] with Hz
  · isplitr; · iapply (inv_at m ρ K (c, some (.inr k))); iexact HR
    iexact Hat
  iapply Hk
  isplitl [Hs]; · iexact Hs
  isplitl [Hkept Hz]
  · isplitl [Hkept] <;> iassumption
  iexact HO

theorem step_drain {α : Type} {Q : α → sProp 𝕄} {rest : Prog (TpuEff nD τ sig (Elt F) Λ₀ .tc) α} (l : List Step) :
    iprop(records m ρ K ∗ levAts L lv ∗ need c (.drain k) ∗ flying c k ∗ owes (c : Thread nD τ) (owedL c l) W
        ∗ ((yield m ρ c (.drain k) ∗ owes (c : Thread nD τ) (owedL c l) (insert (SemLoc.dma (sendS k), ()) W))
            -∗ wp frame (wpE (defs₀ (F := F)) 𝒱₀ (c : Thread nD τ) none) Set.univ rest Q))
      ⊢ wp frame (wpE (defs₀ (F := F)) 𝒱₀ (c : Thread nD τ) none) Set.univ (Step.run c rest (.drain k)) Q := by
  unfold need yield flying Step.run
  iintro ⟨#HR, #Hlev, Hat, Hc, HO, Hk⟩
  iapply (Rounds.wp_wait_rest_token 𝒱₀ ER (Rd m ρ) (c : Thread nD τ) none (κ := K (c, some (.inl k)))
      (wpE_waitDma2_eq 𝒱₀ (c : Thread nD τ) none Set.univ) (Set.mem_univ _) () (O := owedL c l) (W := W) (R := 0) (m := 0) (T := ∅)
      (by rw [Nat.zero_add, credit_eq]; exact (expect_send m ρ c k).symm)) $$ [Hc HO Hat]
  · isplitr; · iapply (inv_at m ρ K (c, some (.inl k))); iexact HR
    isplitl [Hc]; · iexact Hc
    isplitl [HO]; · iexact HO
    isplitr; · iapply (mayWait_steps c (some (.inl k)) l (fun j _ => lt_trans Nat.one_pos (rank_pos j))); iexact Hlev
    iexact Hat
  iintro ⟨HO, Hat, -, Hpay⟩
  ihave Hs := (Entails.of_eq (rest_send m ρ c k)) $$ Hpay
  imod (Rounds.cell_close ER (Rd m ρ) (Set.mem_univ (K (c, some (.inl k)))) (fun h => h) (R := 0 + 1) (duties_later m ρ (sendCell c k))) $$ [Hat] with Hz
  · isplitr; · iapply (inv_at m ρ K (c, some (.inl k))); iexact HR
    iexact Hat
  iapply Hk
  isplitl [Hs Hz]
  · isplitl [Hs] <;> iassumption
  iexact HO

end Step

/-! ## All steps -/

/-- A list of a first element and the others. -/
theorem list_cons {I : Type} (Φ : I → sProp 𝕄) (a : I) : ∀ l : List I, bigSepL (a :: l) Φ = iprop(Φ a ∗ bigSepL l Φ)
  | [] => (sep_nothing _).symm
  | _ :: _ => rfl

theorem owed_same (c : Dev nD) (a : Step) (l : List Step) (h : due c a = 0) : owedL c (a :: l) = owedL c l := by
  rw [owedL, h, add_zero]

theorem take_out (Φ : Copy → sProp 𝕄) {A : Finset Copy} {k : Copy} (h : k ∈ A) : bigSep A Φ = iprop(Φ k ∗ bigSep (A.erase k) Φ) := bigSep_erase h
theorem put_in (Φ : Copy → sProp 𝕄) {A : Finset Copy} {k : Copy} (h : k ∉ A) : bigSep (insert k A) Φ = iprop(Φ k ∗ bigSep A Φ) := bigSep_insert h
theorem put_all (Φ : Copy → sProp 𝕄) {A B : Finset Copy} (h : Disjoint A B) : bigSep (A ∪ B) Φ = iprop(bigSep A Φ ∗ bigSep B Φ) := bigSep_union h

theorem run_steps (c : Dev nD) {α : Type} {Q : α → sProp 𝕄} {rest : Prog (TpuEff nD τ sig (Elt F) Λ₀ .tc) α} :
    ∀ (l : List Step) (A B : Finset Copy) (W : Waits sig Unit), fine l A B = true →
    iprop(records m ρ K ∗ levAts L lv ∗ bigSepL l (need c) ∗ bigSep A (src m ρ c) ∗ bigSep B (flying c) ∗ owes (c : Thread nD τ) (owedL c l) W
        ∗ ((bigSepL l (yield m ρ c) ∗ ∃ W', owes (c : Thread nD τ) 0 W')
            -∗ wp frame (wpE (defs₀ (F := F)) 𝒱₀ (c : Thread nD τ) none) Set.univ rest Q))
      ⊢ wp frame (wpE (defs₀ (F := F)) 𝒱₀ (c : Thread nD τ) none) Set.univ (runs c rest l) Q := by
  intro l
  induction l with
  | nil =>
    intro A B W _
    iintro ⟨-, -, -, -, -, HO, Hk⟩
    iapply Hk
    isplitr
    · rw [bigSepL_nil]; iempintro
    iexists W; iexact HO
  | cons a l ih =>
  intro A B W h
  cases a with
  | start k =>
    rw [fine, Bool.and_eq_true, Bool.and_eq_true, decide_eq_true_eq, decide_eq_true_eq] at h
    obtain ⟨⟨hA, hB⟩, hl⟩ := h
    rw [list_cons, list_cons, take_out _ hA, runs_cons]
    iintro ⟨#HR, #Hlev, ⟨Hn, Hns⟩, ⟨Hs, HA⟩, HB, HO, Hk⟩
    iapply (step_start m ρ K c k W (owedL c l))
    isplitr; · iexact HR
    isplitl [Hn]; · iexact Hn
    isplitl [Hs]; · iexact Hs
    isplitl [HO]; · iexact HO
    iintro ⟨Hf, HO⟩
    iapply (ih (A.erase k) (insert k B) W hl)
    rw [put_in _ hB]
    isplitr; · iexact HR
    isplitr; · iexact Hlev
    isplitl [Hns]; · iexact Hns
    isplitl [HA]; · iexact HA
    isplitl [HB Hf]
    · isplitl [Hf] <;> iassumption
    isplitl [HO]; · iexact HO
    iintro ⟨Hy, HW⟩
    iapply Hk
    isplitl [Hy]
    · unfold yield
      isplitr; · iempintro
      iexact Hy
    iexact HW
  | arrive k =>
    rw [fine, Bool.and_eq_true, Bool.and_eq_true, decide_eq_true_eq, List.all_eq_true] at h
    obtain ⟨⟨hA, hr⟩, hl⟩ := h
    rw [list_cons, list_cons, runs_cons, owed_same c (.arrive k) l rfl]
    iintro ⟨#HR, #Hlev, ⟨Hn, Hns⟩, HA, HB, HO, Hk⟩
    iapply (step_arrive m ρ K c k W l fun j hj => of_decide_eq_true (hr j (mem_starts j l hj)))
    isplitr; · iexact HR
    isplitr; · iexact Hlev
    isplitl [Hn]; · iexact Hn
    isplitl [HO]; · iexact HO
    iintro ⟨Hs, Hy, HO⟩
    iapply (ih (A ∪ deps k) B _ hl)
    rw [put_all _ hA]
    isplitr; · iexact HR
    isplitr; · iexact Hlev
    isplitl [Hns]; · iexact Hns
    isplitl [HA Hs]
    · isplitl [HA] <;> iassumption
    isplitl [HB]; · iexact HB
    isplitl [HO]; · iexact HO
    iintro ⟨Hys, HW⟩
    iapply Hk
    isplitl [Hy Hys]
    · isplitl [Hy] <;> iassumption
    iexact HW
  | drain k =>
    rw [fine, Bool.and_eq_true, decide_eq_true_eq] at h
    obtain ⟨hB, hl⟩ := h
    rw [list_cons, list_cons, take_out _ hB, runs_cons, owed_same c (.drain k) l rfl]
    iintro ⟨#HR, #Hlev, ⟨Hn, Hns⟩, HA, ⟨Hf, HB⟩, HO, Hk⟩
    iapply (step_drain m ρ K c k W l)
    isplitr; · iexact HR
    isplitr; · iexact Hlev
    isplitl [Hn]; · iexact Hn
    isplitl [Hf]; · iexact Hf
    isplitl [HO]; · iexact HO
    iintro ⟨Hy, HO⟩
    iapply (ih A (B.erase k) _ hl)
    isplitr; · iexact HR
    isplitr; · iexact Hlev
    isplitl [Hns]; · iexact Hns
    isplitl [HA]; · iexact HA
    isplitl [HB]; · iexact HB
    isplitl [HO]; · iexact HO
    iintro ⟨Hys, HW⟩
    iapply Hk
    isplitl [Hy Hys]
    · isplitl [Hy] <;> iassumption
    iexact HW

end Cert.Gather

end
-- ==== Proof.Body.lean ====
/-
# The kernel on one device

From what the launch deals a device to the gathered array in its output: the own chunk is stored, the
regions the neighbours will fill are handed to them with the barrier signals, and after the barrier the
steps run.
-/
module

public import proofs.«01_k».proof.Proof.Run
public import proofs.«01_k».proof.Proof.Gen.KernelIdeal.Launch

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Ci → ℕ)

/-! ## Lists and sums, regrouped -/

set_option maxRecDepth 100000 in
theorem steps_nodup : steps.Nodup := by decide +kernel

/-- Every copy is started, arrives and is drained exactly once. -/
theorem steps_set : steps.toFinset = Finset.univ.map ⟨Step.start, fun _ _ h => Step.start.inj h⟩
    ∪ (Finset.univ.map ⟨Step.arrive, fun _ _ h => Step.arrive.inj h⟩ ∪ Finset.univ.map ⟨Step.drain, fun _ _ h => Step.drain.inj h⟩) := by
  have h : ∀ k : Copy, Step.start k ∈ steps ∧ Step.arrive k ∈ steps ∧ Step.drain k ∈ steps := by decide +kernel
  ext a
  simp only [List.mem_toFinset, Finset.mem_union, Finset.mem_map, Finset.mem_univ, true_and, Function.Embedding.coeFn_mk]
  cases a with
  | start k => exact ⟨fun _ => Or.inl ⟨k, rfl⟩, fun _ => (h k).1⟩
  | arrive k => exact ⟨fun _ => Or.inr (Or.inl ⟨k, rfl⟩), fun _ => (h k).2.1⟩
  | drain k => exact ⟨fun _ => Or.inr (Or.inr ⟨k, rfl⟩), fun _ => (h k).2.2⟩

theorem steps_split (Φ : Step → sProp 𝕄) : bigSepL steps Φ
    = iprop((bigSep Finset.univ fun k : Copy => Φ (.start k)) ∗ (bigSep Finset.univ fun k : Copy => Φ (.arrive k)) ∗ bigSep Finset.univ fun k : Copy => Φ (.drain k)) := by
  rw [← bigSep_eq_bigSepL steps steps_nodup, steps_set]
  refine (bigSep_union ?_).trans ?_
  · rw [Finset.disjoint_left]
    intro a h
    obtain ⟨k, -, rfl⟩ := Finset.mem_map.mp h
    intro h'
    rcases Finset.mem_union.mp h' with h' | h' <;> obtain ⟨j, -, hj⟩ := Finset.mem_map.mp h' <;> cases hj
  rw [bigSep_union (by
    rw [Finset.disjoint_left]
    intro a h h'
    obtain ⟨k, -, rfl⟩ := Finset.mem_map.mp h
    obtain ⟨j, -, hj⟩ := Finset.mem_map.mp h'
    cases hj), bigSep_map, bigSep_map, bigSep_map]
  rfl

/-- A device's cells: the barrier, and the others. -/
theorem cells_barrier (Φ : Ci → sProp 𝕄) : bigSep Finset.univ Φ = iprop(Φ none ∗ bigSep Finset.univ fun x : Copy ⊕ Copy => Φ (some x)) := by
  rw [show (Finset.univ : Finset Ci) = insert none (Finset.univ.map ⟨some, Option.some_injective _⟩) by
    ext a; cases a <;> simp]
  refine (bigSep_insert (by simp)).trans ?_
  rw [bigSep_map]
  rfl

/-- The barrier, the sending cells, the receiving cells. -/
theorem cells_split (Φ : Ci → sProp 𝕄) : bigSep Finset.univ Φ
    = iprop(Φ none ∗ (bigSep Finset.univ fun k : Copy => Φ (some (.inl k))) ∗ bigSep Finset.univ fun k : Copy => Φ (some (.inr k))) :=
  (cells_barrier Φ).trans (congrArg (BI.sep (Φ none)) (BI.bigSep_univ_sum fun x => Φ (some x)))

/-! ## What a device starts from and ends with -/

/-- The positions and tokens of device `c`: its own cells at their start, and the duties it fulfils. -/
def linear (c : Dev nD) : sProp 𝕄 :=
  iprop((bigSep Finset.univ fun i : Ci => atPos ER (kcell (c, i)) 0 ∅ 0)
    ∗ (bigSep Finset.univ fun j : Fin 3 => dutyTok ER (barCell (flip c (mask j))) 0 j)
    ∗ (bigSep Finset.univ fun k : Copy => dutyTok ER (sendCell c k) 0 0)
    ∗ bigSep Finset.univ fun k : Copy => dutyTok ER (recvCell (flip c (peer k)) k) 0 0)

/-- What device `c`'s body starts from. -/
def start (c : Dev nD) : sProp 𝕄 :=
  iprop((∃ K, records m ρ K ∗ linear c) ∗ cred (tallyAt (barCell c) () 3)
    ∗ (bigSep Finset.univ fun k : Copy => cred (tallyAt (recvCell c k) () (N k.1))) ∗ levAts L lv)

/-- What it leaves: all its cells at zero. -/
def finish (c : Dev nD) : sProp 𝕄 := bigSep Finset.univ fun i : Ci => semVal (kcell (c, i)) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => full m ρ
  Φ t := match t with
    | ⟨0, _⟩ => start m ρ c
    | ⟨_ + 1, _⟩ => finish c
  q _ := fullShare
  owed t := match t with
    | ⟨0, _⟩ => O₀ c
    | ⟨_ + 1, _⟩ => 0

/-! ## Before the steps -/

/-- What a device hands the neighbour that will write its regions. -/
theorem hand_over (c : Dev nD) (g : (cc0_stg1_0 : Ref sig .tc).ty.Contents (Elt F)) :
    (bigSep Finset.univ fun k : Copy => pts fullShare g c (flip c (got k)) k.1)
      ⊢ bigSep Finset.univ fun j : Fin 3 => barPay (F := F) (flip c (mask j)) j := by
  rw [← along_cover, bigSep_biUnion_eq _ _ _ along_disjoint]
  refine bigSep_mono fun j _ => bigSep_mono fun k hk => ?_
  have hk : peer k = mask j := (Finset.mem_filter.mp hk).2
  have h : pts fullShare g c (flip c (got k)) k.1 = pts fullShare g (flip (flip c (mask j)) (peer k)) (flip (flip c (mask j)) (held k)) k.1 := by
    rw [← hk, flip_flip, flip_held_peer]
  have h' : pts fullShare g (flip (flip c (mask j)) (peer k)) (flip (flip c (mask j)) (held k)) k.1 ⊢ room (F := F) (flip c (mask j)) k := by
    unfold room
    iintro H
    iexists g
    iexact H
  exact (Entails.of_eq h).trans h'

/-- The output once the own chunk is stored: the first sources, and room for the neighbours. -/
theorem after_store (c : Dev nD) (f : (cc0_stg1_0 : Ref sig .tc).ty.Contents (Elt F)) :
    (((c : Thread nD τ).loc cc0_stg1_0) ↦{fullShare} (oM.access (ownBox c)).write (Elt F) f (k0_pay1 (xstg m ρ c)) Finset.univ : sProp 𝕄)
      ⊢ iprop(bigSep first (src m ρ c) ∗ bigSep Finset.univ fun j : Fin 3 => barPay (F := F) (flip c (mask j)) j) := by
  rw [out_regions, regions_split c,
    bigSep_congr fun s _ => pts_congr (F := F) fullShare c c s (stored_own m ρ c s f), own_first]
  exact sep_mono_right (hand_over c _)

/-- Signalling one neighbour. -/
theorem signal_rule (c : Dev nD) (j : Fin 3) (x : Fin 8) (hx : x = mask j) (W : Waits sig Unit) (O : CellTallies nD τ sig Unit)
    {α : Type} {Q : α → sProp 𝕄} {rest : Prog (TpuEff nD τ sig (Elt F) Λ₀ .tc) α} :
    iprop(records m ρ K ∗ owes (c : Thread nD τ) (O + sig1 c j) W ∗ dutyTok ER (barCell (flip c (mask j))) 0 j ∗ barPay (flip c (mask j)) j
        ∗ (owes (c : Thread nD τ) O W -∗ wp frame (wpE (defs₀ (F := F)) 𝒱₀ (c : Thread nD τ) none) Set.univ rest Q))
      ⊢ wp frame (wpE (defs₀ (F := F)) 𝒱₀ (c : Thread nD τ) none) Set.univ
          (.op (.semSignal (Dev.tc (flip c x)) barS (1#32 : BitVec 32).toInt) fun _ => rest) Q := by
  subst hx
  have hd : j ∈ (Rd m ρ).duties (barCell (flip c (mask j))) 0 := by rw [duties_cell]; exact Finset.mem_univ _
  have ha := amount_cell m ρ (flip c (mask j)) none j
  have hp : barPay (flip c (mask j)) j ⊢ (Rd m ρ).payload (barCell (flip c (mask j))) 0 j := by rw [payload_cell]; exact BI.Entails.refl _
  iintro ⟨#HR, HO, Ht, Hp, Hk⟩
  iapply (Rounds.wp_signal 𝒱₀ ER (Rd m ρ) (c : Thread nD τ) none (dst := (flip c (mask j) : Thread nD τ)) (κ := K (flip c (mask j), none))
      (d := j) hd (ha.trans (by decide)) () O rfl) $$ [HO Ht Hp]
  · isplitr; · iapply (inv_at m ρ K (flip c (mask j), none)); iexact HR
    isplitl [HO]; · iexact HO
    isplitl [Ht]; · iexact Ht
    isplitl [Hp]; · iapply hp; iexact Hp
    iapply (reached_at m ρ K (flip c (mask j), none)); iexact HR
  iexact Hk

/-- Hearing from all three. -/
theorem barrier_rule (c : Dev nD) (W : Waits sig Unit)
    {α : Type} {Q : α → sProp 𝕄} {rest : Prog (TpuEff nD τ sig (Elt F) Λ₀ .tc) α} :
    iprop(records m ρ K ∗ levAts L lv ∗ cred (tallyAt (barCell c) () 3) ∗ atPos ER (barCell c) 0 ∅ 0 ∗ owes (c : Thread nD τ) (owedL c steps) W
        ∗ ((bigSep Finset.univ (room c) ∗ semVal (barCell c) 0 ∗ owes (c : Thread nD τ) (owedL c steps) (insert (SemLoc.reg barS, ()) W))
            -∗ wp frame (wpE (defs₀ (F := F)) 𝒱₀ (c : Thread nD τ) none) Set.univ rest Q))
      ⊢ wp frame (wpE (defs₀ (F := F)) 𝒱₀ (c : Thread nD τ) none) Set.univ
          (.op (.semWait barS (3#32 : BitVec 32).toInt) fun _ => rest) Q := by
  iintro ⟨#HR, #Hlev, Hc, Hat, HO, Hk⟩
  iapply (Rounds.wp_wait_rest_token 𝒱₀ ER (Rd m ρ) (c : Thread nD τ) none (κ := K (c, none))
      (wpE_semWait_eq 𝒱₀ (c : Thread nD τ) none Set.univ) (Set.mem_univ _) () (O := owedL c steps) (W := W) (R := 0) (m := 0) (T := ∅)
      (by rw [Nat.zero_add]; exact (show (3#32 : BitVec 32).toInt.toNat = 3 by decide).trans (expect_bar m ρ c).symm)) $$ [Hc HO Hat]
  · isplitr; · iapply (inv_at m ρ K (c, none)); iexact HR
    isplitl [Hc]; · iexact Hc
    isplitl [HO]; · iexact HO
    isplitr; · iapply (mayWait_steps c none steps (fun j _ => rank_pos j)); iexact Hlev
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iapply (inv_at m ρ K (c, none)); iexact HR
    iexact Hat
  iapply Hk
  isplitl [Hp]; · iexact Hp
  isplitl [Hz]; · iexact Hz
  iexact HO

/-! ## The steps, with everything in place -/

theorem needs_intro (c : Dev nD) :
    iprop((bigSep Finset.univ fun k : Copy => dutyTok ER (sendCell c k) 0 0) ∗ (bigSep Finset.univ fun k : Copy => dutyTok ER (recvCell (flip c (peer k)) k) 0 0)
        ∗ bigSep Finset.univ (room c) ∗ (bigSep Finset.univ fun k : Copy => cred (tallyAt (recvCell c k) () (N k.1)))
        ∗ (bigSep Finset.univ fun k : Copy => atPos ER (sendCell c k) 0 ∅ 0) ∗ bigSep Finset.univ fun k : Copy => atPos ER (recvCell c k) 0 ∅ 0)
      ⊢ bigSepL steps (need (F := F) c) := by
  rw [steps_split]
  unfold need
  simp only [bigSep_sep']
  iintro ⟨H1, H2, H3, H4, H5, H6⟩
  isplitl [H1 H2 H3]
  · isplitl [H1]; · iexact H1
    isplitl [H2] <;> iassumption
  isplitl [H4 H6]
  · isplitl [H4] <;> iassumption
  iexact H5

theorem yields_elim (c : Dev nD) :
    bigSepL steps (yield m ρ c)
      ⊢ iprop((((c : Thread nD τ).loc cc0_stg1_0) ↦{fullShare} full m ρ)
        ∗ (bigSep Finset.univ fun k : Copy => semVal (sendCell c k) 0) ∗ bigSep Finset.univ fun k : Copy => semVal (recvCell c k) 0) := by
  rw [steps_split, ← collect]
  unfold yield
  simp only [bigSep_sep']
  iintro ⟨-, ⟨H1, H2⟩, H3, H4⟩
  isplitl [H1 H3]
  · isplitl [H3] <;> iassumption
  isplitl [H4] <;> iassumption

/-! ## The body -/

def t₀ : Fin cfg0.N := t0_0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start m ρ c ∗ (dats m ρ 0 c).owesAt () t₀.castSucc
    ∗ (∃ d, holds c cc0_stg0_0 ((dats m ρ 0 c).before (0 : Fin 2) t₀ d))
    ∗ (∃ d, holds c cc0_stg1_0 ((dats m ρ 0 c).before (1 : Fin 2) t₀ d)))

def bodyPost (c : Dev nD) : sProp 𝕄 :=
  iprop(finish c ∗ (dats m ρ 0 c).owesAt () t₀.succ ∗ holds c cc0_stg0_0 (xstg m ρ c) ∗ holds c cc0_stg1_0 (full m ρ))

theorem zeros : (![0, 0] : Fin 2 → Nat) = fun _ => 0 := funext fun a => by fin_cases a <;> rfl

theorem read_own (f : (cc0_stg0_0 : Ref sig .tc).ty.Contents (Elt F)) :
    xM.view.readAt (Elt F) (Rect.unit (s := S2048x512) ![0, 0] S2048x512.size inb_S2048x512_S2048x512_0_0).toLoadRect f = f :=
  Memref.readAt_unit_zero (Elt F) cc0_stg0_0 zeros _ f

theorem three (Φ : Fin 3 → sProp 𝕄) : bigSep Finset.univ Φ = iprop(Φ 0 ∗ Φ 1 ∗ Φ 2) := bigSep_univ_eq_bigSepL [0, 1, 2] (by decide) (by decide) Φ

/-- The body from what a device starts with to what it ends with. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
          (cc0_body xM (Memref.isWhole_whole _) oM (Memref.isWhole_whole _) cc0_scratch0 cc0_scratch1) Kt := by
  rw [← body_eq]
  unfold pre
  simp only [wp_deviceId]
  unfold bodyPre start linear
  rw [cells_split, three fun j => dutyTok ER (barCell (flip c (mask j))) 0 j]
  iintro ⟨⟨⟨⟨%K, #HR, ⟨HatB, HatS, HatV⟩, ⟨Ht0, Ht1, Ht2⟩, HtS, HtV⟩, HcB, HcV, #Hlev⟩, Ho, ⟨%d0, %g0, %hg0, Hx⟩, ⟨%d1, %g1, %hg1, Hout⟩⟩, Hk⟩
  have hx : g0 = xstg m ρ c := by
    rw [hg0]; unfold Dat.before
    rw [if_pos (show (cfg0.win (0 : Fin 2)).fetch t₀ = true by decide +kernel)]; rfl
  subst hx
  unfold Dat.owesAt Pipeline.owesWithin
  icases Ho with ⟨%W, %hW, HO⟩
  rw [show (dats m ρ 0 c).owed t₀.castSucc = O₀ c from rfl]
  -- the own chunk into its place
  iapply (wp_load 𝒱₀ (c : Thread nD τ) none Set.univ (m := xM) (Finset.subset_univ _)) $$ Hx; iintro Hx
  rw [read_own]
  iapply (wp_load 𝒱₀ (c : Thread nD τ) none Set.univ (m := oM) (Finset.subset_univ _)) $$ Hout; iintro Hout
  iapply (wp_store 𝒱₀ (c : Thread nD τ) none Set.univ (m := oM) (r := ownBox c) (Mk := Finset.univ) (Finset.subset_univ _)) $$ Hout; iintro Hout
  ihave H := (after_store m ρ c g1) $$ Hout
  icases H with ⟨Hsrc, Hpay⟩
  ihave Hpay := (Entails.of_eq (three fun j => barPay (F := F) (flip c (mask j)) j)) $$ Hpay
  icases Hpay with ⟨Hp0, Hp1, Hp2⟩
  -- the three signals
  unfold O₀
  iapply (signal_rule m ρ K c 0 1 rfl W)
  isplitr; · iexact HR
  isplitl [HO]; · iexact HO
  isplitl [Ht0]; · iexact Ht0
  isplitl [Hp0]; · iexact Hp0
  iintro HO
  iapply (signal_rule m ρ K c 1 3 rfl W)
  isplitr; · iexact HR
  isplitl [HO]; · iexact HO
  isplitl [Ht1]; · iexact Ht1
  isplitl [Hp1]; · iexact Hp1
  iintro HO
  iapply (signal_rule m ρ K c 2 4 rfl W)
  isplitr; · iexact HR
  isplitl [HO]; · iexact HO
  isplitl [Ht2]; · iexact Ht2
  isplitl [Hp2]; · iexact Hp2
  iintro HO
  -- the barrier
  iapply (barrier_rule m ρ K c W)
  isplitr; · iexact HR
  isplitr; · iexact Hlev
  isplitl [HcB]; · iexact HcB
  isplitl [HatB]; · iexact HatB
  isplitl [HO]; · iexact HO
  iintro ⟨Hroom, HzB, HO⟩
  -- the steps
  iapply (run_steps m ρ K c steps first ∅ (insert (SemLoc.reg barS, ()) W) steps_fine)
  isplitr; · iexact HR
  isplitr; · iexact Hlev
  isplitl [HtS HtV Hroom HcV HatS HatV]
  · iapply (needs_intro (F := F) c)
    isplitl [HtS]; · iexact HtS
    isplitl [HtV]; · iexact HtV
    isplitl [Hroom]; · iexact Hroom
    isplitl [HcV]; · iexact HcV
    isplitl [HatS] <;> iassumption
  isplitl [Hsrc]; · iexact Hsrc
  isplitr; · rw [bigSep_empty]; iempintro
  isplitl [HO]; · iexact HO
  iintro ⟨Hy, ⟨%W', HO⟩⟩
  ihave Hy := (yields_elim m ρ c) $$ Hy
  icases Hy with ⟨Hout, HzS, HzV⟩
  rw [wp_ret]; imodintro
  iapply Hk
  unfold bodyPost finish Dat.owesAt Pipeline.owesWithin
  rw [show (dats m ρ 0 c).owed t₀.succ = 0 from rfl, cells_split]
  isplitl [HzB HzS HzV]
  · isplitl [HzB]; · iexact HzB
    isplitl [HzS] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body xM (Memref.isWhole_whole _) oM (Memref.isWhole_whole _) cc0_scratch0 cc0_scratch1) (fun _ => bodyPost m ρ c)
  iintro H
  iapply (sound_body m ρ c fun _ => bodyPost m ρ c)
  isplitl [H]; · iexact H
  iintro H; iexact H

end Cert.Gather

end
-- ==== Proof.Launch.lean ====
/-
# The run on eight devices

The launch makes every cell's invariant and deals the duty tokens to the devices that fulfil them. Each
device is credited with what the others owe its cells. With the body on every device this gives the run
of the whole program, for any float values.
-/
module

public import proofs.«01_k».proof.Proof.Body
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of the kernel -/

/-- The kernel's own semaphores: those of the send and receive cells. -/
abbrev osem (x : Copy ⊕ Copy) : SemLoc sig := csem (some x)

theorem ownSemFacts : Pipeline.OwnSemFacts cfg0.spec osem where
  isScoped := by decide +kernel
  inj := fun _ _ h => Option.some_injective _ (csem_injective h)
  disj := by decide +kernel

theorem share_eq (c : Dev nD) (w : Fin cfg0.W) : (dats m ρ 0 c).share w = fullShare := by unfold Dat.share; split <;> rfl

/-- The launch's one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- Together they are the device's cells. -/
theorem sems0_eq (c : Dev nD) :
    (bigSep Finset.univ fun i : Ci => (semVal (kcell (c, i)) 0 : sProp 𝕄))
      = iprop(unscopedSems0 c ∗ Pipeline.ownSems0 (Ix := Unit) (Name := ℕ) (U := UU) (Lvl := ℕ) (Val := Elt F) (τ := τ) osem c) := by
  rw [cells_barrier, unscopedSems0_eq]; rfl

/-! ## Cells and tokens made at launch -/

def allCells : Finset (GSem nD τ sig) := Finset.univ.map ⟨kcell, kcell_injective⟩

/-- The duties of a device's cells: three on the barrier, one on each other. -/
abbrev Duty : Type := Fin 3 ⊕ (Copy ⊕ Copy)

def tokOf (x : Dev nD × Duty) : GSem nD τ sig × ℕ × Fin 3 := match x.2 with
  | .inl j => (barCell x.1, 0, j)
  | .inr i => (kcell (x.1, some i), 0, 0)

theorem tokOf_injective : Function.Injective tokOf := by
  rintro ⟨c, i⟩ ⟨d, j⟩ h
  have hc := congrArg Prod.fst h
  have hj := congrArg (fun y => y.2.2) h
  cases i <;> cases j
  · exact Prod.ext (Prod.ext_iff.mp (kcell_injective hc)).1 (congrArg Sum.inl hj)
  · exact absurd (Prod.ext_iff.mp (kcell_injective hc)).2 (fun h => by cases h)
  · exact absurd (Prod.ext_iff.mp (kcell_injective hc)).2 (fun h => by cases h)
  · have h' := Prod.ext_iff.mp (kcell_injective hc)
    exact Prod.ext h'.1 (congrArg Sum.inr (Option.some_injective _ h'.2))

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun j : Fin 3 => dutyTok ER (barCell c) 0 j)
    ∗ (bigSep Finset.univ fun k : Copy => dutyTok ER (sendCell c k) 0 0)
    ∗ bigSep Finset.univ fun k : Copy => dutyTok ER (recvCell c k) 0 0)

/-- What the launch deals device `c`, -/
def G (c : Dev nD) : sProp 𝕄 :=
  iprop((bigSep Finset.univ fun i : Ci => roundState ER (Rd m ρ) (kcell (c, i)) 0)
    ∗ (bigSep Finset.univ fun i : Ci => iprop(atPos ER (kcell (c, i)) 0 ∅ 0 ∗ reached ER (kcell (c, i)) 0)) ∗ toks c)

/-- and what all devices together make of it. -/
def G' (c : Dev nD) : sProp 𝕄 := iprop(∃ K, records m ρ K ∗ linear c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : Ci => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    refine (BI.bigSep_univ_sum _).trans (congrArg (BI.sep _) ((BI.bigSep_univ_sum _).trans ?_))
    rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- One device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Ci => iprop(∃ κ : ℕ, cellInv ER (Rd m ρ) κ (kcell (c, i))))
          ∗ (bigSep Finset.univ fun i : Ci => iprop(atPos ER (kcell (c, i)) 0 ∅ 0 ∗ reached ER (kcell (c, i)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun i : Ci => semVal (kcell (c, i)) 0) ∗ bigSep Finset.univ fun i : Ci => roundState ER (Rd m ρ) (kcell (c, i)) 0)
      ⊢ (|={Set.univ}=> bigSep Finset.univ fun i : Ci => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens around -/

/-- Every device shifted, each by its own index's mask. -/
def turns {J : Type} (f : J → Fin 8) : Dev nD × J ≃ Dev nD × J where
  toFun x := (flip x.1 (f x.2), x.2)
  invFun x := (flip x.1 (f x.2), x.2)
  left_inv x := Prod.ext (flip_flip x.1 (f x.2)) rfl
  right_inv x := Prod.ext (flip_flip x.1 (f x.2)) rfl

theorem around {J : Type} [Fintype J] (f : J → Fin 8) (Φ : Dev nD → J → sProp 𝕄) :
    (bigSep Finset.univ fun c => bigSep Finset.univ fun j => Φ c j) = bigSep Finset.univ fun c => bigSep Finset.univ fun j => Φ (flip c (f j)) j := by
  rw [← bigSep_univ_prod (fun x : Dev nD × J => Φ x.1 x.2), bigSep_univ_equiv (turns f), bigSep_univ_prod]
  rfl

/-- The tokens of the duties device `c` fulfils. -/
def payToks (c : Dev nD) : sProp 𝕄 :=
  iprop((bigSep Finset.univ fun j : Fin 3 => dutyTok ER (barCell (flip c (mask j))) 0 j)
    ∗ (bigSep Finset.univ fun k : Copy => dutyTok ER (sendCell c k) 0 0)
    ∗ bigSep Finset.univ fun k : Copy => dutyTok ER (recvCell (flip c (peer k)) k) 0 0)

theorem toks_around : (bigSep Finset.univ fun c : Dev nD => (toks c : sProp 𝕄)) = bigSep Finset.univ fun c : Dev nD => payToks c := by
  unfold toks payToks
  rw [bigSep_sep', bigSep_sep', bigSep_sep', bigSep_sep',
    around mask fun c j => dutyTok ER (barCell c) 0 j, around peer fun c k => dutyTok ER (recvCell c k) 0 0]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Ci → ℕ) (c : Dev nD) : iprop(records m ρ K ∗ linear c) ⊢ G' m ρ c := by
  unfold G'
  iintro H
  iexists K
  iexact H

theorem regroup :
    (bigSep Finset.univ fun c : Dev nD => iprop((bigSep Finset.univ fun i : Ci => iprop(∃ κ : ℕ, cellInv ER (Rd m ρ) κ (kcell (c, i))))
          ∗ (bigSep Finset.univ fun i : Ci => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun x : Dev nD × Ci => iprop(∃ κ : ℕ, cellInv ER (Rd m ρ) κ (kcell x))),
    bigSep_congr (s := Finset.univ) (fun (c : Dev nD) _ => bigSep_sep' Finset.univ (fun i : Ci => (atPos ER (kcell (c, i)) 0 ∅ 0 : sProp 𝕄)) (fun i => reached ER (kcell (c, i)) 0)),
    bigSep_sep', ← bigSep_univ_prod (fun x : Dev nD × Ci => (reached ER (kcell x) 0 : sProp 𝕄)), toks_around]
  iintro ⟨HI, ⟨Hat, #HR⟩, Htok⟩
  ihave HK := (BI.bigSep_exists_pi Finset.univ (fun (x : Dev nD × Ci) (κ : ℕ) => (cellInv ER (Rd m ρ) κ (kcell x) : sProp 𝕄))) $$ HI
  icases HK with ⟨%K, #HI⟩
  iapply (with_persistent (R := records m ρ K) fun c _ => ghost_intro m ρ K c)
  isplitr
  · unfold records; isplitl; · iexact HI
    iexact HR
  · iapply (Entails.of_eq (bigSep_sep' Finset.univ (fun c : Dev nD => bigSep Finset.univ fun i : Ci => (atPos ER (kcell (c, i)) 0 ∅ 0 : sProp 𝕄)) payToks).symm)
    isplitl [Hat]; · iexact Hat
    iexact Htok

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What the others owe a device -/

theorem tally_cell (x y : Dev nD × Ci) (n : ℕ) : tallyAt (kcell x) () n (kcell y) () = if y = x then n else 0 := by
  rw [tallyAt_apply]
  by_cases h : y = x
  · subst h; rw [if_pos ⟨rfl, rfl⟩, if_pos rfl]
  · rw [if_neg (fun h' => h (kcell_injective h'.1)), if_neg h]

theorem due_recv (d c : Dev nD) (k : Copy) (a : Step) :
    due d a (recvCell c k) () = if a = .start k ∧ d = flip c (peer k) then N k.1 else 0 := by
  cases a with
  | start j =>
    refine (tally_cell _ _ _).trans ?_
    by_cases h : Step.start j = .start k ∧ d = flip c (peer k)
    · obtain ⟨h1, h2⟩ := h
      cases h1
      have e : (c, (some (.inr k) : Ci)) = (flip d (peer k), some (.inr k)) := by rw [h2, flip_flip]
      exact (if_pos e).trans (if_pos ⟨rfl, h2⟩).symm
    · rw [if_neg h, if_neg]
      intro h'
      have h1 := (Prod.ext_iff.mp h').1
      have h2 := Sum.inr_injective (Option.some_injective _ (Prod.ext_iff.mp h').2)
      refine h ⟨by rw [show k = j from h2], ?_⟩
      rw [show c = flip d (peer j) from h1, show k = j from h2, flip_flip]
  | arrive j => rw [if_neg (fun h => by cases h.1)]; rfl
  | drain j => rw [if_neg (fun h => by cases h.1)]; rfl

theorem owedL_recv (d c : Dev nD) (k : Copy) : ∀ l : List Step, l.Nodup →
    owedL d l (recvCell c k) () = if Step.start k ∈ l ∧ d = flip c (peer k) then N k.1 else 0
  | [], _ => by rw [if_neg (fun h => by cases h.1)]; rfl
  | a :: l, hn => by
    obtain ⟨ha, hl⟩ := List.nodup_cons.mp hn
    rw [owedL, Pi.add_apply, Finsupp.add_apply, owedL_recv d c k l hl, due_recv]
    by_cases hd : d = flip c (peer k)
    · by_cases h : a = .start k
      · subst h
        rw [if_neg (fun h => ha h.1), if_pos ⟨rfl, hd⟩, if_pos ⟨List.mem_cons_self, hd⟩, Nat.zero_add]
      · rw [if_neg (c := a = .start k ∧ _) (fun h' => h h'.1), Nat.add_zero]
        refine if_congr ?_ rfl rfl
        rw [List.mem_cons]
        exact ⟨fun h' => ⟨Or.inr h'.1, h'.2⟩, fun h' => ⟨h'.1.resolve_left (fun e => h e.symm), h'.2⟩⟩
    · rw [if_neg (fun h => hd h.2), if_neg (fun h => hd h.2), if_neg (fun h => hd h.2)]

theorem started (k : Copy) : Step.start k ∈ steps := by revert k; decide +kernel

theorem O₀_recv (d c : Dev nD) (k : Copy) : O₀ d (recvCell c k) () = if d = flip c (peer k) then N k.1 else 0 := by
  have hs (j : Fin 3) : sig1 d j (recvCell c k) () = 0 := (tally_cell _ _ _).trans (if_neg fun h => by cases (Prod.ext_iff.mp h).2)
  unfold O₀
  rw [Pi.add_apply, Finsupp.add_apply, Pi.add_apply, Finsupp.add_apply, Pi.add_apply, Finsupp.add_apply, hs, hs, hs,
    owedL_recv d c k steps steps_nodup]
  exact if_congr ⟨fun h => h.2, fun h => ⟨started k, h⟩⟩ rfl rfl

theorem O₀_bar (d c : Dev nD) : O₀ d (barCell c) ()
    = (if d = flip c (mask 2) then 1 else 0) + (if d = flip c (mask 1) then 1 else 0) + (if d = flip c (mask 0) then 1 else 0) := by
  have hs (j : Fin 3) : sig1 d j (barCell c) () = if d = flip c (mask j) then 1 else 0 := by
    refine (tally_cell _ _ _).trans (if_congr ⟨fun h => ?_, fun h => ?_⟩ rfl rfl)
    · rw [show c = flip d (mask j) from (Prod.ext_iff.mp h).1, flip_flip]
    · rw [h, flip_flip]
  have hl : owedL d steps (barCell c) () = 0 := Nat.eq_zero_of_not_pos fun h => by
    obtain ⟨k, -, hk⟩ := owedL_pos d steps h
    cases (Prod.ext_iff.mp (kcell_injective hk)).2
  unfold O₀
  rw [Pi.add_apply, Finsupp.add_apply, Pi.add_apply, Finsupp.add_apply, Pi.add_apply, Finsupp.add_apply, hs, hs, hs, hl, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]

theorem launch_recv (c : Dev nD) (k : Copy) :
    tallyOn (recvCell c k) (launchCredit (Pipeline.owing O₀) 0 (recvCell c k)) = (tallyAt (recvCell c k) () (N k.1) : CellTallies nD τ sig Unit) := by
  unfold tallyAt; refine congrArg _ (Finsupp.ext fun u => ?_); cases u
  rw [Pipeline.launchCredit_owing, Finsupp.single_eq_same, Finset.sum_congr rfl fun d _ => O₀_recv d c k,
    Finset.sum_ite_eq' Finset.univ _ fun _ => N k.1, if_pos (Finset.mem_univ _)]

theorem creds (c : Dev nD) :
    (Pipeline.launchCred O₀ c : sProp 𝕄)
      ⊢ iprop(cred (tallyAt (barCell c) () 3) ∗ bigSep Finset.univ fun k : Copy => cred (tallyAt (recvCell c k) () (N k.1))) := by
  unfold Pipeline.launchCred
  refine (bigSep_subset (Finset.subset_univ (Finset.univ.map ⟨csem, csem_injective⟩))).trans ?_
  rw [bigSep_map, cells_split]
  refine Entails.trans ?_ (sep_mono (Entails.of_eq (congrArg cred (launch_bar c))) (bigSep_mono fun k _ => Entails.of_eq (congrArg cred (launch_recv c k))))
  iintro ⟨H1, -, H2⟩
  isplitl [H1]; · iexact H1
  iexact H2

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finish c from rfl, scopedRest0_eq]
  unfold finish
  rw [sems0_eq]
  iintro ⟨H1, H2⟩
  isplitl [H1]; · iexact H1
  isplitl [H2]; · iexact H2
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide +kernel) _ (by
      rcases t with ⟨_ | _, ht⟩
      · exact Or.inl rfl
      · exact Or.inr rfl)

/-! ## The run -/

/-- What window `w`'s array of device `c` holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every fair execution of the program on eight devices ends, with each
    device's arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.Gather

end
-- ==== Proof.Value.lean ====
/-
# What the run leaves in the output

The output array of every device ends at the gathered array. When each device's input is its block of
one whole array, the gathered array is that array. The reference returns its argument.
-/
module

public import proofs.«01_k».proof.Proof.Launch
public import proofs.«01_k».proof.Proof.Gen.ReferenceIdeal
public import Idealize.ShloMosaic.Lib.Pipeline.ValueKit
public import Idealize.ShloMosaic.Lib.StableHlo.RunHlo
public import Idealize.ShloMosaic.Lib.Layout

@[expose] public section

noncomputable section

namespace Cert.Gather

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The output ends at the gathered array. -/
theorem finalA_out (c : Dev nD) : finalA m ρ c (1 : Fin 2) = full m ρ := by
  refine (dats m ρ 0 c).arrAt_eq_of_after_last 1 t0_0 (by decide +kernel) (full m ρ) fun j => ?_
  rfl

/-- The stored chunk is the staged one. -/
theorem pay_id (v : Vec F S2048x512 .bf16) : k0_pay1 v = v := by
  unfold k0_pay1
  exact shapeCast_self v _

/-- The staged chunk is the device's argument. -/
theorem xstg_eq (c : Dev nD) : xstg m ρ c = m ((c : Thread nD τ).loc main_arg0) := by
  funext i
  show m ((c : Thread nD τ).loc main_arg0) ((win0_0.rect (0 : Fin 1)).emb i) = _
  refine congrArg _ (funext fun a => Fin.ext ?_)
  exact Pipeline.Window.rect_emb_val_of_index_zero _ _ _ (by revert a; decide +kernel) _

/-- The blocks of a whole array, gathered, are that array. -/
theorem full_of_blocks (X : Shape.Idx ⟨2, ![16384, 512]⟩ → Elt F .bf16)
    (h : ∀ c : Dev nD, m ((c : Thread nD τ).loc main_arg0) = Layout.block ⟨2, ![2048, 512]⟩ ⟨2, ![16384, 512]⟩ 0 8 c X) :
    full m ρ = X := by
  funext i
  unfold full
  rw [pay_id, xstg_eq, h]
  rw [Layout.block_apply]
  refine congrArg X (funext fun a => Fin.ext ?_)
  rw [Layout.Tiles.idx_val]
  match a with
  | ⟨0, _⟩ =>
    have := Nat.div_add_mod (i 0).val 2048
    show (i 0).val / 2048 * 2048 + (i 0).val % 2048 = (i 0).val
    omega
  | ⟨1, _⟩ => rfl

/-- The run with the output dropped: it ends with the input kept and every counter at zero. -/
theorem run_kept : θ_run defs (onTc (τ := τ) (main (F := F))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run defs _ _).mono (fun _ h => ⟨fun c => (h.1 c (0 : Fin 2)).trans (finalA_in m ρ c), h.2⟩) (run_main m ρ)

/-- The run from the blocks of a whole array: every device ends with that array, and its input kept. -/
theorem run_gathered (X : Shape.Idx ⟨2, ![16384, 512]⟩ → Elt F .bf16)
    (h : ∀ c : Dev nD, m ((c : Thread nD τ).loc main_arg0) = Layout.block ⟨2, ![2048, 512]⟩ ⟨2, ![16384, 512]⟩ 0 8 c X) :
    θ_run defs (onTc (τ := τ) (main (F := F))) ⟨m, fun _ => 0, ρ⟩ fun r => ∀ c : Dev nD,
      r.2.mem ((c.tc : Thread nD τ).loc main_v1) = X ∧ r.2.mem ((c.tc : Thread nD τ).loc main_arg0) = m ((c.tc : Thread nD τ).loc main_arg0) :=
  (θ_run defs _ _).mono (fun _ hr c =>
      ⟨(hr.1 c (1 : Fin 2)).trans ((finalA_out m ρ c).trans (full_of_blocks m ρ X h)), (hr.1 c (0 : Fin 2)).trans (finalA_in m ρ c)⟩)
    (run_main m ρ)

end Cert.Gather

namespace Cert.WholeArray

open Cert.ReferenceIdeal Cert.ReferenceIdeal.Gen
open Idealize.ShloMosaic
open Idealize.SL.Sem

variable {F : FTy → Type} [FloatOps F]

/-- The reference has no operation: it ends with its argument, which is its result, and no counter raised. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (StableHlo.run_hlo defs main (fun _ => StableHlo.IsSeq.nil) (by decide) (by decide) trivial
      (fun _ h => absurd h List.not_mem_nil) m ρ)

end Cert.WholeArray

end
-- ==== Proof.Words.lean ====
/-
# The programs over words

The kernel and its ideal form have the same text. Their body tables are equal, so the run proved for any
float values is also the kernel's. So it is with the reference, which has no bodies.
-/
module

public import proofs.«01_k».proof.Proof.Value
public import proofs.«01_k».proof.Proof.Gen.Kernel
public import proofs.«01_k».proof.Proof.Gen.Reference

@[expose] public section

noncomputable section

namespace Cert.Gather

open Idealize.ShloMosaic Idealize.SL.Sem

variable {F : FTy → Type} [FloatOps F]

/-- The one label's body is the same in both programs. -/
theorem bodies_same : Cert.Kernel.defs₀ (F := F) = Cert.KernelIdeal.defs₀ (F := F) := by
  refine congrArg Defs.onTc (funext fun l => ?_)
  obtain ⟨_ | n, h⟩ := l
  · funext x
    rfl
  · exact absurd h (Nat.not_lt.2 (Nat.le_add_left _ _))

theorem defs_same : Cert.Kernel.defs (F := F) = Cert.KernelIdeal.defs (F := F) :=
  congrArg (Pipeline.defs Cert.KernelIdeal.pcfgs) bodies_same

/-- A run of the ideal kernel's text is a run of the kernel's. -/
theorem run_words (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run Cert.KernelIdeal.defs (onTc (τ := Cert.KernelIdeal.τ) (Cert.KernelIdeal.main (F := F))) s Q) :
    θ_run (Cert.Kernel.defs (F := F)) (onTc (τ := Cert.Kernel.τ) (Cert.Kernel.main (F := F))) s Q :=
  (congrArg (fun D => θ_run D (onTc (τ := Cert.KernelIdeal.τ) (Cert.KernelIdeal.main (F := F))) s Q) defs_same).mpr h

end Cert.Gather

namespace Cert.WholeArray

open Idealize.ShloMosaic Idealize.SL.Sem

variable {F : FTy → Type} [FloatOps F]

theorem defs_same : Cert.Reference.defs (F := F) = Cert.ReferenceIdeal.defs (F := F) :=
  congrArg (Pipeline.defs Cert.ReferenceIdeal.pcfgs) (congrArg Defs.onTc (funext fun l => l.elim0))

/-- A run of the ideal reference's text is a run of the reference's. -/
theorem run_words (s : MemSt Cert.ReferenceIdeal.nD Cert.ReferenceIdeal.τ Cert.ReferenceIdeal.sig (Elt F))
    (Q : PUnit × MemSt Cert.ReferenceIdeal.nD Cert.ReferenceIdeal.τ Cert.ReferenceIdeal.sig (Elt F) → Prop)
    (h : θ_run Cert.ReferenceIdeal.defs (onTc (τ := Cert.ReferenceIdeal.τ) (Cert.ReferenceIdeal.main (F := F))) s Q) :
    θ_run (Cert.Reference.defs (F := F)) (onTc (τ := Cert.Reference.τ) (Cert.Reference.main (F := F))) s Q :=
  (congrArg (fun D => θ_run D (onTc (τ := Cert.ReferenceIdeal.τ) (Cert.ReferenceIdeal.main (F := F))) s Q) defs_same).mpr h

end Cert.WholeArray

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Words
public import Idealize.ShloMosaic.Adequacy
public import Idealize.ShloMosaic.Init

@[expose] public section

noncomputable section

namespace Cert.Proof

open Idealize.ShloMosaic Idealize.SL.Sem Cert.Kernel

/-- The kernel over words. Its text is the ideal kernel's, whose run is proved for any float values. -/
theorem frame_kernel : Cert.quiescent_Kernel := fun m ρ _ =>
  Cert.Gather.run_words _ _ (Cert.Gather.run_kept (F := Bits) m ρ)

/-- The kernel over the extended reals. -/
theorem frame_kernelIdeal : Cert.quiescent_KernelIdeal := fun m ρ _ => Cert.Gather.run_kept (F := Ideal) m ρ

/-- The reference over the extended reals, -/
theorem frame_referenceIdeal : Cert.quiescent_ReferenceIdeal := fun m ρ _ => Cert.WholeArray.run_main (F := Ideal) m ρ

/-- and over words. -/
theorem frame_reference : Cert.quiescent_Reference := fun m ρ _ =>
  Cert.WholeArray.run_words _ _ (Cert.WholeArray.run_main (F := Bits) m ρ)

/-- Every device ends with the whole array whose blocks the devices were given, which is what the reference returns. -/
theorem algebraic : Cert.algebraic_KernelIdeal_ReferenceIdeal := fun m ρ m' ρ' _ hag =>
  ⟨m' (((0 : Dev Cert.ReferenceIdeal.nD).tc : Thread Cert.ReferenceIdeal.nD Cert.ReferenceIdeal.τ).loc Cert.ReferenceIdeal.main_arg0),
    Cert.Gather.run_gathered (F := Ideal) m ρ _ hag,
    (θ_run Cert.ReferenceIdeal.defs _ _).mono (fun _ h => ⟨h.1 0, h.1 0⟩) (Cert.WholeArray.run_main (F := Ideal) m' ρ')⟩

/-- The same of the printed programs, word for word. -/
theorem bitexact : Cert.bitexact_Kernel_Reference := fun m ρ m' ρ' _ hag =>
  ⟨m' (((0 : Dev Cert.Reference.nD).tc : Thread Cert.Reference.nD Cert.Reference.τ).loc Cert.Reference.main_arg0),
    Cert.Gather.run_words _ _ (Cert.Gather.run_gathered (F := Bits) m ρ _ hag),
    (θ_run Cert.Reference.defs _ _).mono (fun _ h => ⟨h.1 0, h.1 0⟩) (Cert.WholeArray.run_words _ _ (Cert.WholeArray.run_main (F := Bits) m' ρ'))⟩

/-- All the claims, under the programs' facts. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
